-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 4, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![4, 256, 1024]⟩ ⟨3, ![4, 512, 1024]⟩ (Layout.meshBlock [2, 4, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S4x8x64x512 : Shape := ⟨4, ![4, 8, 64, 512]⟩
abbrev S4x256x1024 : Shape := ⟨3, ![4, 256, 1024]⟩
abbrev S4x512x256 : Shape := ⟨3, ![4, 512, 256]⟩
abbrev S_ : Shape := ⟨0, ![]⟩
abbrev S4 : Shape := ⟨1, ![4]⟩
abbrev S8 : Shape := ⟨1, ![8]⟩
abbrev S1 : Shape := ⟨1, ![1]⟩
abbrev S1x8x64x512 : Shape := ⟨4, ![1, 8, 64, 512]⟩
abbrev S8x64x512 : Shape := ⟨3, ![8, 64, 512]⟩
abbrev S1x8x64x256 : Shape := ⟨4, ![1, 8, 64, 256]⟩
abbrev S8x64x256 : Shape := ⟨3, ![8, 64, 256]⟩
abbrev S512x256 : Shape := ⟨2, ![512, 256]⟩
abbrev S1x512x256 : Shape := ⟨3, ![1, 512, 256]⟩
abbrev S64x1024 : Shape := ⟨2, ![64, 1024]⟩
abbrev S1x512x128 : Shape := ⟨3, ![1, 512, 128]⟩
abbrev S512x128 : Shape := ⟨2, ![512, 128]⟩
abbrev S256x1024 : Shape := ⟨2, ![256, 1024]⟩
abbrev S1x256x1024 : Shape := ⟨3, ![1, 256, 1024]⟩
abbrev S1x128x256 : Shape := ⟨3, ![1, 128, 256]⟩
abbrev S128x256 : Shape := ⟨2, ![128, 256]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x512x8x64, .f32⟩
  | .hbm, ⟨1, _⟩ => ⟨S512x1024, .f32⟩
  | .hbm, ⟨2, _⟩ => ⟨S4x8x64x512, .f32⟩
  | .hbm, ⟨3, _⟩ => ⟨S4x256x1024, .bf16⟩
  | .local _ .vmem, ⟨0, _⟩ => ⟨S512x1024, .f32⟩
  | .local _ .vmem, ⟨1, _⟩ => ⟨S4x8x64x512, .f32⟩
  | .local _ .vmem, ⟨2, _⟩ => ⟨S4x256x1024, .f32⟩
  | .local _ .vmem, ⟨3, _⟩ => ⟨S4x256x1024, .bf16⟩
  | .local _ .vmem, ⟨4, _⟩ => ⟨S512x1024, .bf16⟩
  | .local _ .vmem, ⟨5, _⟩ => ⟨S512x1024, .bf16⟩
  | .local _ .vmem, ⟨6, _⟩ => ⟨S4x512x256, .bf16⟩
  | .local _ .vmem, ⟨7, _⟩ => ⟨S4x512x256, .bf16⟩
  | _, _ => ⟨S4x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_54 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_53 : BitVec 32 := 16#32
  let v59 : BitVec 32 := Scalar.muli v9 c16_i32_53
  let v60 : BitVec 32 := Scalar.addi c0_i32_54 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v61 : BitVec 32 := Scalar.muli v5 c4_i32_55
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v63 : BitVec 32 := Scalar.muli v8 c1_i32_56
  let v64 : BitVec 32 := Scalar.addi v62 v63
  v64.toNat
def k0_dev2 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v65 : BitVec 32 := Scalar.muli v2 c16_i32_58
  let v66 : BitVec 32 := Scalar.addi c0_i32_59 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_60 : BitVec 32 := 4#32
  let v67 : BitVec 32 := Scalar.muli v22 c4_i32_60
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v69 : BitVec 32 := Scalar.muli v8 c1_i32_61
  let v70 : BitVec 32 := Scalar.addi v68 v69
  v70.toNat
def k0_off1 (d0 : Dev nD) : Fin 4 → Nat :=
  let c0_76 : Index := 0#32
  let c0_77 : Index := 0#32
  let c0_78 : Index := 0#32
  let c1_i32_66 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v76 : BitVec 32 := Scalar.subi c1_i32_66 v2
  let c256_i32 : BitVec 32 := 256#32
  let v83 : BitVec 32 := Scalar.muli v76 c256_i32
  let v84 : Index := Scalar.indexCast v83
  ![0, 0, 0, v84.toNat]
def k0_off2 (d0 : Dev nD) : Fin 4 → Nat :=
  let c1 : Index := 1#32
  let c0_92 : Index := 0#32
  let c0_93 : Index := 0#32
  let c1_i32_66 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v76 : BitVec 32 := Scalar.subi c1_i32_66 v2
  let c256_i32_91 : BitVec 32 := 256#32
  let v98 : BitVec 32 := Scalar.muli v76 c256_i32_91
  let v99 : Index := Scalar.indexCast v98
  ![1, 0, 0, v99.toNat]
def k0_off3 (d0 : Dev nD) : Fin 4 → Nat :=
  let c2 : Index := 2#32
  let c0_107 : Index := 0#32
  let c0_108 : Index := 0#32
  let c1_i32_66 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v76 : BitVec 32 := Scalar.subi c1_i32_66 v2
  let c256_i32_106 : BitVec 32 := 256#32
  let v113 : BitVec 32 := Scalar.muli v76 c256_i32_106
  let v114 : Index := Scalar.indexCast v113
  ![2, 0, 0, v114.toNat]
def k0_off4 (d0 : Dev nD) : Fin 4 → Nat :=
  let c3 : Index := 3#32
  let c0_122 : Index := 0#32
  let c0_123 : Index := 0#32
  let c1_i32_66 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v76 : BitVec 32 := Scalar.subi c1_i32_66 v2
  let c256_i32_121 : BitVec 32 := 256#32
  let v128 : BitVec 32 := Scalar.muli v76 c256_i32_121
  let v129 : Index := Scalar.indexCast v128
  ![3, 0, 0, v129.toNat]
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let v137 : BitVec 32 := Scalar.extui v33
  let c0_i32_140 : BitVec 32 := 0#32
  let v138 : BitVec 1 := Scalar.cmpi .ne v137 c0_i32_140
  v138

def k0_dev3 (d0 : Dev nD) : Nat :=
  let c0_i32_453 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_452 : BitVec 32 := 16#32
  let v192 : BitVec 32 := Scalar.muli v9 c16_i32_452
  let v193 : BitVec 32 := Scalar.addi c0_i32_453 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_454 : BitVec 32 := 4#32
  let v194 : BitVec 32 := Scalar.muli v5 c4_i32_454
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v196 : BitVec 32 := Scalar.muli v8 c1_i32_455
  let v197 : BitVec 32 := Scalar.addi v195 v196
  v197.toNat
def k0_dev4 (d0 : Dev nD) : Nat :=
  let c0_i32_461 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_460 : BitVec 32 := 16#32
  let v204 : BitVec 32 := Scalar.muli v9 c16_i32_460
  let v205 : BitVec 32 := Scalar.addi c0_i32_461 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_462 : BitVec 32 := 4#32
  let v206 : BitVec 32 := Scalar.muli v5 c4_i32_462
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v208 : BitVec 32 := Scalar.muli v8 c1_i32_463
  let v209 : BitVec 32 := Scalar.addi v207 v208
  v209.toNat
def k0_dev5 (d0 : Dev nD) : Nat :=
  let c0_i32_468 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_467 : BitVec 32 := 16#32
  let v216 : BitVec 32 := Scalar.muli v9 c16_i32_467
  let v217 : BitVec 32 := Scalar.addi c0_i32_468 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_469 : BitVec 32 := 4#32
  let v218 : BitVec 32 := Scalar.muli v5 c4_i32_469
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v220 : BitVec 32 := Scalar.muli v8 c1_i32_470
  let v221 : BitVec 32 := Scalar.addi v219 v220
  v221.toNat
def k0_dev6 (d0 : Dev nD) : Nat :=
  let c0_i32_475 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_474 : BitVec 32 := 16#32
  let v228 : BitVec 32 := Scalar.muli v9 c16_i32_474
  let v229 : BitVec 32 := Scalar.addi c0_i32_475 v228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_476 : BitVec 32 := 4#32
  let v230 : BitVec 32 := Scalar.muli v5 c4_i32_476
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v232 : BitVec 32 := Scalar.muli v8 c1_i32_477
  let v233 : BitVec 32 := Scalar.addi v231 v232
  v233.toNat
def k0_dev7 (d0 : Dev nD) : Nat :=
  let c0_i32_482 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_481 : BitVec 32 := 16#32
  let v240 : BitVec 32 := Scalar.muli v9 c16_i32_481
  let v241 : BitVec 32 := Scalar.addi c0_i32_482 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_483 : BitVec 32 := 4#32
  let v242 : BitVec 32 := Scalar.muli v5 c4_i32_483
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v244 : BitVec 32 := Scalar.muli v8 c1_i32_484
  let v245 : BitVec 32 := Scalar.addi v243 v244
  v245.toNat
def k0_dev8 (d0 : Dev nD) : Nat :=
  let c0_i32_490 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_489 : BitVec 32 := 16#32
  let v252 : BitVec 32 := Scalar.muli v9 c16_i32_489
  let v253 : BitVec 32 := Scalar.addi c0_i32_490 v252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_491 : BitVec 32 := 4#32
  let v254 : BitVec 32 := Scalar.muli v5 c4_i32_491
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v256 : BitVec 32 := Scalar.muli v8 c1_i32_492
  let v257 : BitVec 32 := Scalar.addi v255 v256
  v257.toNat
def k0_dev9 (d0 : Dev nD) : Nat :=
  let c0_i32_497 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_496 : BitVec 32 := 16#32
  let v264 : BitVec 32 := Scalar.muli v9 c16_i32_496
  let v265 : BitVec 32 := Scalar.addi c0_i32_497 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_498 : BitVec 32 := 4#32
  let v266 : BitVec 32 := Scalar.muli v5 c4_i32_498
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_499 : BitVec 32 := 1#32
  let v268 : BitVec 32 := Scalar.muli v8 c1_i32_499
  let v269 : BitVec 32 := Scalar.addi v267 v268
  v269.toNat
def k0_dev10 (d0 : Dev nD) : Nat :=
  let c0_i32_504 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_503 : BitVec 32 := 16#32
  let v276 : BitVec 32 := Scalar.muli v9 c16_i32_503
  let v277 : BitVec 32 := Scalar.addi c0_i32_504 v276
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_505 : BitVec 32 := 4#32
  let v278 : BitVec 32 := Scalar.muli v5 c4_i32_505
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v280 : BitVec 32 := Scalar.muli v8 c1_i32_506
  let v281 : BitVec 32 := Scalar.addi v279 v280
  v281.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let true_141 : BitVec 1 := 1#1
  let v139 : BitVec 1 := Scalar.xori v33 true_141
  let v140 : BitVec 32 := Scalar.extui v139
  let c0_i32_174 : BitVec 32 := 0#32
  let v141 : BitVec 1 := Scalar.cmpi .ne v140 c0_i32_174
  v141

def k0_dev11 (d0 : Dev nD) : Nat :=
  let c0_i32_453 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_452 : BitVec 32 := 16#32
  let v192 : BitVec 32 := Scalar.muli v9 c16_i32_452
  let v193 : BitVec 32 := Scalar.addi c0_i32_453 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_454 : BitVec 32 := 4#32
  let v194 : BitVec 32 := Scalar.muli v5 c4_i32_454
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v196 : BitVec 32 := Scalar.muli v8 c1_i32_455
  let v197 : BitVec 32 := Scalar.addi v195 v196
  v197.toNat
def k0_dev12 (d0 : Dev nD) : Nat :=
  let c0_i32_461 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_460 : BitVec 32 := 16#32
  let v206 : BitVec 32 := Scalar.muli v9 c16_i32_460
  let v207 : BitVec 32 := Scalar.addi c0_i32_461 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_462 : BitVec 32 := 4#32
  let v208 : BitVec 32 := Scalar.muli v5 c4_i32_462
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v210 : BitVec 32 := Scalar.muli v8 c1_i32_463
  let v211 : BitVec 32 := Scalar.addi v209 v210
  v211.toNat
def k0_dev13 (d0 : Dev nD) : Nat :=
  let c0_i32_468 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_467 : BitVec 32 := 16#32
  let v220 : BitVec 32 := Scalar.muli v9 c16_i32_467
  let v221 : BitVec 32 := Scalar.addi c0_i32_468 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_469 : BitVec 32 := 4#32
  let v222 : BitVec 32 := Scalar.muli v5 c4_i32_469
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v224 : BitVec 32 := Scalar.muli v8 c1_i32_470
  let v225 : BitVec 32 := Scalar.addi v223 v224
  v225.toNat
def k0_dev14 (d0 : Dev nD) : Nat :=
  let c0_i32_476 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_475 : BitVec 32 := 16#32
  let v234 : BitVec 32 := Scalar.muli v9 c16_i32_475
  let v235 : BitVec 32 := Scalar.addi c0_i32_476 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_477 : BitVec 32 := 4#32
  let v236 : BitVec 32 := Scalar.muli v5 c4_i32_477
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v238 : BitVec 32 := Scalar.muli v8 c1_i32_478
  let v239 : BitVec 32 := Scalar.addi v237 v238
  v239.toNat
def k0_dev15 (d0 : Dev nD) : Nat :=
  let c0_i32_484 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_483 : BitVec 32 := 16#32
  let v248 : BitVec 32 := Scalar.muli v9 c16_i32_483
  let v249 : BitVec 32 := Scalar.addi c0_i32_484 v248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_485 : BitVec 32 := 4#32
  let v250 : BitVec 32 := Scalar.muli v5 c4_i32_485
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_486 : BitVec 32 := 1#32
  let v252 : BitVec 32 := Scalar.muli v8 c1_i32_486
  let v253 : BitVec 32 := Scalar.addi v251 v252
  v253.toNat
def k0_dev16 (d0 : Dev nD) : Nat :=
  let c0_i32_492 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_491 : BitVec 32 := 16#32
  let v262 : BitVec 32 := Scalar.muli v9 c16_i32_491
  let v263 : BitVec 32 := Scalar.addi c0_i32_492 v262
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v264 : BitVec 32 := Scalar.muli v5 c4_i32_493
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v266 : BitVec 32 := Scalar.muli v8 c1_i32_494
  let v267 : BitVec 32 := Scalar.addi v265 v266
  v267.toNat
def k0_dev17 (d0 : Dev nD) : Nat :=
  let c0_i32_500 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_499 : BitVec 32 := 16#32
  let v276 : BitVec 32 := Scalar.muli v9 c16_i32_499
  let v277 : BitVec 32 := Scalar.addi c0_i32_500 v276
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_501 : BitVec 32 := 4#32
  let v278 : BitVec 32 := Scalar.muli v5 c4_i32_501
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v280 : BitVec 32 := Scalar.muli v8 c1_i32_502
  let v281 : BitVec 32 := Scalar.addi v279 v280
  v281.toNat
def k0_dev18 (d0 : Dev nD) : Nat :=
  let c0_i32_508 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_507 : BitVec 32 := 16#32
  let v290 : BitVec 32 := Scalar.muli v9 c16_i32_507
  let v291 : BitVec 32 := Scalar.addi c0_i32_508 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_509 : BitVec 32 := 4#32
  let v292 : BitVec 32 := Scalar.muli v5 c4_i32_509
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v294 : BitVec 32 := Scalar.muli v8 c1_i32_510
  let v295 : BitVec 32 := Scalar.addi v293 v294
  v295.toNat
def k0_off5 (d0 : Dev nD) : Fin 4 → Nat :=
  let c0_176 : Index := 0#32
  let c0_177 : Index := 0#32
  let c0_178 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_175 : BitVec 32 := 256#32
  let v142 : BitVec 32 := Scalar.muli v2 c256_i32_175
  let v143 : Index := Scalar.indexCast v142
  ![0, 0, 0, v143.toNat]
def k0_off6 (d0 : Dev nD) : Fin 4 → Nat :=
  let c1_183 : Index := 1#32
  let c0_184 : Index := 0#32
  let c0_185 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_182 : BitVec 32 := 256#32
  let v152 : BitVec 32 := Scalar.muli v2 c256_i32_182
  let v153 : Index := Scalar.indexCast v152
  ![1, 0, 0, v153.toNat]
def k0_off7 (d0 : Dev nD) : Fin 4 → Nat :=
  let c2_191 : Index := 2#32
  let c0_192 : Index := 0#32
  let c0_193 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_190 : BitVec 32 := 256#32
  let v162 : BitVec 32 := Scalar.muli v2 c256_i32_190
  let v163 : Index := Scalar.indexCast v162
  ![2, 0, 0, v163.toNat]
def k0_off8 (d0 : Dev nD) : Fin 4 → Nat :=
  let c3_199 : Index := 3#32
  let c0_200 : Index := 0#32
  let c0_201 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_198 : BitVec 32 := 256#32
  let v172 : BitVec 32 := Scalar.muli v2 c256_i32_198
  let v173 : Index := Scalar.indexCast v172
  ![3, 0, 0, v173.toNat]
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let v182 : BitVec 32 := Scalar.extui v33
  let c0_i32_270 : BitVec 32 := 0#32
  let v183 : BitVec 1 := Scalar.cmpi .ne v182 c0_i32_270
  v183

def k0_dev19 (d0 : Dev nD) : Nat :=
  let c0_i32_461 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_460 : BitVec 32 := 16#32
  let v202 : BitVec 32 := Scalar.muli v2 c16_i32_460
  let v203 : BitVec 32 := Scalar.addi c0_i32_461 v202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_462 : BitVec 32 := 4#32
  let v204 : BitVec 32 := Scalar.muli v22 c4_i32_462
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v206 : BitVec 32 := Scalar.muli v8 c1_i32_463
  let v207 : BitVec 32 := Scalar.addi v205 v206
  v207.toNat
def k0_dev20 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v224 : BitVec 32 := Scalar.muli v2 c16_i32_475
  let v225 : BitVec 32 := Scalar.addi c0_i32_476 v224
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_477 : BitVec 32 := 4#32
  let v226 : BitVec 32 := Scalar.muli v22 c4_i32_477
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v228 : BitVec 32 := Scalar.muli v8 c1_i32_478
  let v229 : BitVec 32 := Scalar.addi v227 v228
  v229.toNat
def k0_dev21 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v246 : BitVec 32 := Scalar.muli v2 c16_i32_490
  let v247 : BitVec 32 := Scalar.addi c0_i32_491 v246
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_492 : BitVec 32 := 4#32
  let v248 : BitVec 32 := Scalar.muli v22 c4_i32_492
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v250 : BitVec 32 := Scalar.muli v8 c1_i32_493
  let v251 : BitVec 32 := Scalar.addi v249 v250
  v251.toNat
def k0_dev22 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v268 : BitVec 32 := Scalar.muli v2 c16_i32_505
  let v269 : BitVec 32 := Scalar.addi c0_i32_506 v268
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_507 : BitVec 32 := 4#32
  let v270 : BitVec 32 := Scalar.muli v22 c4_i32_507
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v272 : BitVec 32 := Scalar.muli v8 c1_i32_508
  let v273 : BitVec 32 := Scalar.addi v271 v272
  v273.toNat
def k0_dev23 (d0 : Dev nD) : Nat :=
  let c0_i32_522 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_521 : BitVec 32 := 16#32
  let v290 : BitVec 32 := Scalar.muli v2 c16_i32_521
  let v291 : BitVec 32 := Scalar.addi c0_i32_522 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_523 : BitVec 32 := 4#32
  let v292 : BitVec 32 := Scalar.muli v22 c4_i32_523
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_524 : BitVec 32 := 1#32
  let v294 : BitVec 32 := Scalar.muli v8 c1_i32_524
  let v295 : BitVec 32 := Scalar.addi v293 v294
  v295.toNat
def k0_dev24 (d0 : Dev nD) : Nat :=
  let c0_i32_537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_536 : BitVec 32 := 16#32
  let v312 : BitVec 32 := Scalar.muli v2 c16_i32_536
  let v313 : BitVec 32 := Scalar.addi c0_i32_537 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_538 : BitVec 32 := 4#32
  let v314 : BitVec 32 := Scalar.muli v22 c4_i32_538
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v316 : BitVec 32 := Scalar.muli v8 c1_i32_539
  let v317 : BitVec 32 := Scalar.addi v315 v316
  v317.toNat
def k0_dev25 (d0 : Dev nD) : Nat :=
  let c0_i32_552 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_551 : BitVec 32 := 16#32
  let v334 : BitVec 32 := Scalar.muli v2 c16_i32_551
  let v335 : BitVec 32 := Scalar.addi c0_i32_552 v334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_553 : BitVec 32 := 4#32
  let v336 : BitVec 32 := Scalar.muli v22 c4_i32_553
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_554 : BitVec 32 := 1#32
  let v338 : BitVec 32 := Scalar.muli v8 c1_i32_554
  let v339 : BitVec 32 := Scalar.addi v337 v338
  v339.toNat
def k0_dev26 (d0 : Dev nD) : Nat :=
  let c0_i32_567 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_566 : BitVec 32 := 16#32
  let v356 : BitVec 32 := Scalar.muli v2 c16_i32_566
  let v357 : BitVec 32 := Scalar.addi c0_i32_567 v356
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_568 : BitVec 32 := 4#32
  let v358 : BitVec 32 := Scalar.muli v22 c4_i32_568
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v360 : BitVec 32 := Scalar.muli v8 c1_i32_569
  let v361 : BitVec 32 := Scalar.addi v359 v360
  v361.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v5 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let true_271 : BitVec 1 := 1#1
  let v184 : BitVec 1 := Scalar.xori v33 true_271
  let v185 : BitVec 32 := Scalar.extui v184
  let c0_i32_352 : BitVec 32 := 0#32
  let v186 : BitVec 1 := Scalar.cmpi .ne v185 c0_i32_352
  v186

def k0_dev27 (d0 : Dev nD) : Nat :=
  let c0_i32_461 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_460 : BitVec 32 := 16#32
  let v204 : BitVec 32 := Scalar.muli v2 c16_i32_460
  let v205 : BitVec 32 := Scalar.addi c0_i32_461 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_462 : BitVec 32 := 4#32
  let v206 : BitVec 32 := Scalar.muli v22 c4_i32_462
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v208 : BitVec 32 := Scalar.muli v8 c1_i32_463
  let v209 : BitVec 32 := Scalar.addi v207 v208
  v209.toNat
def k0_dev28 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v230 : BitVec 32 := Scalar.muli v2 c16_i32_475
  let v231 : BitVec 32 := Scalar.addi c0_i32_476 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_477 : BitVec 32 := 4#32
  let v232 : BitVec 32 := Scalar.muli v22 c4_i32_477
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v234 : BitVec 32 := Scalar.muli v8 c1_i32_478
  let v235 : BitVec 32 := Scalar.addi v233 v234
  v235.toNat
def k0_dev29 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_491 : BitVec 32 := 16#32
  let v256 : BitVec 32 := Scalar.muli v2 c16_i32_491
  let v257 : BitVec 32 := Scalar.addi c0_i32_492 v256
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_493 : BitVec 32 := 4#32
  let v258 : BitVec 32 := Scalar.muli v22 c4_i32_493
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v260 : BitVec 32 := Scalar.muli v8 c1_i32_494
  let v261 : BitVec 32 := Scalar.addi v259 v260
  v261.toNat
def k0_dev30 (d0 : Dev nD) : Nat :=
  let c0_i32_508 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_507 : BitVec 32 := 16#32
  let v282 : BitVec 32 := Scalar.muli v2 c16_i32_507
  let v283 : BitVec 32 := Scalar.addi c0_i32_508 v282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_509 : BitVec 32 := 4#32
  let v284 : BitVec 32 := Scalar.muli v22 c4_i32_509
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v286 : BitVec 32 := Scalar.muli v8 c1_i32_510
  let v287 : BitVec 32 := Scalar.addi v285 v286
  v287.toNat
def k0_dev31 (d0 : Dev nD) : Nat :=
  let c0_i32_524 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_523 : BitVec 32 := 16#32
  let v308 : BitVec 32 := Scalar.muli v2 c16_i32_523
  let v309 : BitVec 32 := Scalar.addi c0_i32_524 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_525 : BitVec 32 := 4#32
  let v310 : BitVec 32 := Scalar.muli v22 c4_i32_525
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v312 : BitVec 32 := Scalar.muli v8 c1_i32_526
  let v313 : BitVec 32 := Scalar.addi v311 v312
  v313.toNat
def k0_dev32 (d0 : Dev nD) : Nat :=
  let c0_i32_540 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_539 : BitVec 32 := 16#32
  let v334 : BitVec 32 := Scalar.muli v2 c16_i32_539
  let v335 : BitVec 32 := Scalar.addi c0_i32_540 v334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_541 : BitVec 32 := 4#32
  let v336 : BitVec 32 := Scalar.muli v22 c4_i32_541
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_542 : BitVec 32 := 1#32
  let v338 : BitVec 32 := Scalar.muli v8 c1_i32_542
  let v339 : BitVec 32 := Scalar.addi v337 v338
  v339.toNat
def k0_dev33 (d0 : Dev nD) : Nat :=
  let c0_i32_556 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_555 : BitVec 32 := 16#32
  let v360 : BitVec 32 := Scalar.muli v2 c16_i32_555
  let v361 : BitVec 32 := Scalar.addi c0_i32_556 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_557 : BitVec 32 := 4#32
  let v362 : BitVec 32 := Scalar.muli v22 c4_i32_557
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_558 : BitVec 32 := 1#32
  let v364 : BitVec 32 := Scalar.muli v8 c1_i32_558
  let v365 : BitVec 32 := Scalar.addi v363 v364
  v365.toNat
def k0_dev34 (d0 : Dev nD) : Nat :=
  let c0_i32_572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_571 : BitVec 32 := 16#32
  let v386 : BitVec 32 := Scalar.muli v2 c16_i32_571
  let v387 : BitVec 32 := Scalar.addi c0_i32_572 v386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c2_i32_9 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.muli c2_i32_9 v20
  let v22 : BitVec 32 := Scalar.subi v10 v21
  let c4_i32_573 : BitVec 32 := 4#32
  let v388 : BitVec 32 := Scalar.muli v22 c4_i32_573
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_574 : BitVec 32 := 1#32
  let v390 : BitVec 32 := Scalar.muli v8 c1_i32_574
  let v391 : BitVec 32 := Scalar.addi v389 v390
  v391.toNat
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S1024x1024, .f32⟩
  | .hbm, ⟨2, _⟩ => ⟨S4x512x1024, .f32⟩
  | .hbm, ⟨3, _⟩ => ⟨S4x512x1024, .f32⟩
  | .hbm, ⟨4, _⟩ => ⟨S4x512x1024, .bf16⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/-
  The kernel's body in a structured form: the same effects with the same memory references, written over
  indexes (batch `b`, transfer chunk `j`, contraction tile `i`) instead of one line per unrolled step. `body_eq`
  says the printed body IS this program.
-/
module

public import proofs.«01_k».proof.Proof.Gen.KernelIdeal.Skeleton
public import proofs.«01_k».proof.Proof.Gen.KernelIdeal.Points
public import Idealize.ShloMosaic.Lib.Pipeline.Regions

@[expose] public section

set_option synthInstance.maxSize 4096

noncomputable section

namespace Cert.KernelIdeal.Gen

open Idealize.ShloMosaic Idealize.SL.Sem

variable {F : FTy → Type} [FloatOps F]

/-- Programs of the kernel's own effects. -/
abbrev KProg (F : FTy → Type) : Type → Type 1 := Prog (TpuEff nD τ sig (Elt F) Λ₀ .tc)

/-- `f 0`, then `f 1`, …, then `f (n-1)`. -/
def seqN : (n : ℕ) → (Fin n → KProg F PUnit) → KProg F PUnit
  | 0, _ => pure ⟨⟩
  | n + 1, f => do
    f 0
    seqN n fun i => f i.succ

/-! ## Semaphores -/

abbrev wSem : DmaSem sig := ⟨0, by decide⟩
abbrev inSem (b : Fin 4) : DmaSem sig := ⟨1 + b.val, by have := b.isLt; show 1 + b.val < 41; omega⟩
abbrev outSem (b : Fin 4) : DmaSem sig := ⟨5 + b.val, by have := b.isLt; show 5 + b.val < 41; omega⟩
abbrev xsSem (j : Fin 8) : DmaSem sig := ⟨9 + j.val, by have := j.isLt; show 9 + j.val < 41; omega⟩
abbrev woSem (j : Fin 8) : DmaSem sig := ⟨17 + j.val, by have := j.isLt; show 17 + j.val < 41; omega⟩
abbrev oSem (j : Fin 8) : DmaSem sig := ⟨25 + j.val, by have := j.isLt; show 25 + j.val < 41; omega⟩
abbrev fwSem (j : Fin 8) : DmaSem sig := ⟨33 + j.val, by have := j.isLt; show 33 + j.val < 41; omega⟩
abbrev barSem : Sem sig := (SemArray.scalar (sig.barrier 0 rfl) : Sems sig S_).sem

/-! ## Rectangles -/

/-- Batch `b` of the staged activations is inside the buffer. -/
theorem inbX : ∀ b : Fin 4, ∀ a, (![b.val, 0, 0, 0] : Fin 4 → Nat) a + S1x8x64x512.size a ≤ S4x8x64x512.size a := by decide
/-- Batch `b` of a result is inside the buffer. -/
theorem inbR : ∀ b : Fin 4, ∀ a, (![b.val, 0, 0] : Fin 3 → Nat) a + S1x256x1024.size a ≤ S4x256x1024.size a := by decide
/-- Batch `b` of the rounded activations is inside the buffer. -/
theorem inbS : ∀ b : Fin 4, ∀ a, (![b.val, 0, 0] : Fin 3 → Nat) a + S1x512x256.size a ≤ S4x512x256.size a := by decide
/-- Chunk `j` of the weights is inside the buffer. -/
theorem inbW : ∀ j : Fin 8, ∀ a, (![64 * j.val, 0] : Fin 2 → Nat) a + S64x1024.size a ≤ S512x1024.size a := by decide
/-- Chunk `j` of the activations is inside the buffer. -/
theorem inbO : ∀ j : Fin 8, ∀ a, (![j.val / 2, 0, 128 * (j.val % 2)] : Fin 3 → Nat) a + S1x512x128.size a ≤ S4x512x256.size a := by decide
/-- Tile `i` of batch `b` of the activations is inside the buffer. -/
theorem inbTO : ∀ (b i : Fin 4), ∀ a, (![b.val, 128 * i.val, 0] : Fin 3 → Nat) a + S1x128x256.size a ≤ S4x512x256.size a := by decide
/-- Tile `i` of the weights is inside the buffer. -/
theorem inbTW : ∀ i : Fin 4, ∀ a, (![128 * i.val, 0] : Fin 2 → Nat) a + S128x1024.size a ≤ S512x1024.size a := by decide

/-- The whole of a `512 × 1024` buffer. -/
abbrev rAll : Rect S512x1024 := Rect.unit (s := S512x1024) ![0, 0] S512x1024.size inb_S512x1024_S512x1024_0_0
/-- Batch `b` of the staged activations. -/
abbrev rX (b : Fin 4) : Rect S4x8x64x512 := Rect.unit (s := S4x8x64x512) ![b.val, 0, 0, 0] S1x8x64x512.size (inbX b)
/-- Batch `b` of the accumulator and of the result. -/
abbrev rR (b : Fin 4) : Rect S4x256x1024 := Rect.unit (s := S4x256x1024) ![b.val, 0, 0] S1x256x1024.size (inbR b)
/-- Batch `b` of the activations to send. -/
abbrev rS (b : Fin 4) : Rect S4x512x256 := Rect.unit (s := S4x512x256) ![b.val, 0, 0] S1x512x256.size (inbS b)
/-- Chunk `j` of the weights. -/
abbrev rW (j : Fin 8) : Rect S512x1024 := Rect.unit (s := S512x1024) ![64 * j.val, 0] S64x1024.size (inbW j)
/-- Chunk `j` of the activations: half the columns of one batch. -/
abbrev rO (j : Fin 8) : Rect S4x512x256 := Rect.unit (s := S4x512x256) ![j.val / 2, 0, 128 * (j.val % 2)] S1x512x128.size (inbO j)
/-- Tile `i` of batch `b` of the received activations. -/
abbrev rTO (b i : Fin 4) : Rect S4x512x256 := Rect.unit (s := S4x512x256) ![b.val, 128 * i.val, 0] S1x128x256.size (inbTO b i)
/-- Tile `i` of the received weights. -/
abbrev rTW (i : Fin 4) : Rect S512x1024 := Rect.unit (s := S512x1024) ![128 * i.val, 0] S128x1024.size (inbTW i)

/-- Batch `b` of a result consists of whole words. -/
theorem wordsR : ∀ b : Fin 4, (rR b).WholeWords (EltTy.packing .bf16) := by decide
/-- Chunk `j` of the weights consists of whole words. -/
theorem wordsW : ∀ j : Fin 8, (rW j).WholeWords (EltTy.packing .bf16) := by decide
/-- Chunk `j` of the activations consists of whole words. -/
theorem wordsO : ∀ j : Fin 8, (rO j).WholeWords (EltTy.packing .bf16) := by decide
/-- Batch `b` of a result consists of whole packed rows. -/
theorem packedR : ∀ b : Fin 4, (rR b).PackedRows (EltTy.packing .bf16) := by decide
/-- Batch `b` of the rounded activations consists of whole packed rows. -/
theorem packedS : ∀ b : Fin 4, (rS b).PackedRows (EltTy.packing .bf16) := by decide

/-- Where the columns kept by this device's partner start, and where its own start. -/
abbrev offP (b : Fin 4) (d : Dev nD) : Fin 4 → Nat := ![b.val, 0, 0, k0_off1 d 3]
abbrev offOwn (b : Fin 4) (d : Dev nD) : Fin 4 → Nat := ![b.val, 0, 0, k0_off5 d 3]
/-- The partner's columns of batch `b` are inside the buffer. -/
theorem inbP : ∀ (b : Fin 4) (d : Dev nD), ∀ a, offP b d a + S1x8x64x256.size a ≤ S4x8x64x512.size a := by decide +kernel
/-- The own columns of batch `b` are inside the buffer. -/
theorem inbOwn : ∀ (b : Fin 4) (d : Dev nD), ∀ a, offOwn b d a + S1x8x64x256.size a ≤ S4x8x64x512.size a := by decide +kernel
abbrev rP (b : Fin 4) (d : Dev nD) : Rect S4x8x64x512 := Rect.unit (s := S4x8x64x512) (offP b d) S1x8x64x256.size (inbP b d)
abbrev rOwn (b : Fin 4) (d : Dev nD) : Rect S4x8x64x512 := Rect.unit (s := S4x8x64x512) (offOwn b d) S1x8x64x256.size (inbOwn b d)

/-! ## Memory references -/

abbrev mX : Memref sig .tc .hbm S4x8x64x512 .f32 := Memref.whole main_v1
abbrev mW : Memref sig .tc .hbm S512x1024 .f32 := Memref.whole main_arg1
abbrev mR : Memref sig .tc .hbm S4x256x1024 .bf16 := Memref.whole main_v2
abbrev vW : Memref sig .tc .vmem S512x1024 .f32 := Memref.whole cc0_scratch0
abbrev vX : Memref sig .tc .vmem S4x8x64x512 .f32 := Memref.whole cc0_scratch1
abbrev vA : Memref sig .tc .vmem S4x256x1024 .f32 := Memref.whole cc0_scratch2
abbrev vB : Memref sig .tc .vmem S4x256x1024 .bf16 := Memref.whole cc0_scratch3
abbrev sW : Memref sig .tc .vmem S512x1024 .bf16 := Memref.whole cc0_scratch4
abbrev lW : Memref sig .tc .vmem S512x1024 .bf16 := Memref.whole cc0_scratch5
abbrev sO : Memref sig .tc .vmem S4x512x256 .bf16 := Memref.whole cc0_scratch6
abbrev lO : Memref sig .tc .vmem S4x512x256 .bf16 := Memref.whole cc0_scratch7

abbrev mXb (b : Fin 4) : Memref sig .tc .hbm S8x64x512 .f32 := (mX.slice (rX b) (fun _ => rfl)).squeeze S8x64x512 squeezes_S1x8x64x512_S8x64x512
abbrev vXb (b : Fin 4) : Memref sig .tc .vmem S8x64x512 .f32 := (vX.slice (rX b) (fun _ => rfl)).squeeze S8x64x512 squeezes_S1x8x64x512_S8x64x512
abbrev mRb (b : Fin 4) : Memref sig .tc .hbm S256x1024 .bf16 := (mR.slice (rR b) (fun _ => rfl)).squeeze S256x1024 squeezes_S1x256x1024_S256x1024
abbrev vBb (b : Fin 4) : Memref sig .tc .vmem S256x1024 .bf16 := (vB.slice (rR b) (fun _ => rfl)).squeeze S256x1024 squeezes_S1x256x1024_S256x1024
abbrev sWj (j : Fin 8) : Memref sig .tc .vmem S64x1024 .bf16 := sW.slice (rW j) (fun _ => rfl)
abbrev lWj (j : Fin 8) : Memref sig .tc .vmem S64x1024 .bf16 := lW.slice (rW j) (fun _ => rfl)
abbrev sOj (j : Fin 8) : Memref sig .tc .vmem S512x128 .bf16 := (sO.slice (rO j) (fun _ => rfl)).squeeze S512x128 squeezes_S1x512x128_S512x128
abbrev lOj (j : Fin 8) : Memref sig .tc .vmem S512x128 .bf16 := (lO.slice (rO j) (fun _ => rfl)).squeeze S512x128 squeezes_S1x512x128_S512x128

/-- Batch `b` in HBM may be copied: it covers whole words. -/
theorem weX (b : Fin 4) : (mXb b).view.WordExact := (View.wordExact_bits rfl).reshape _ _
/-- So does batch `b` of the staged activations. -/
theorem weVX (b : Fin 4) : (vXb b).view.WordExact := (View.wordExact_bits rfl).reshape _ _
/-- So does batch `b` of the result in HBM. -/
theorem weR (b : Fin 4) : (mRb b).view.WordExact := ((Memref.isWhole_whole _).wordExact_slice rfl _ (wordsR b)).reshape _ _
/-- So does batch `b` of the rounded result. -/
theorem weB (b : Fin 4) : (vBb b).view.WordExact := ((Memref.isWhole_whole _).wordExact_slice rfl _ (wordsR b)).reshape _ _
/-- So does chunk `j` of the weights to send. -/
theorem weSW (j : Fin 8) : (sWj j).view.WordExact := (Memref.isWhole_whole _).wordExact_slice rfl _ (wordsW j)
/-- So does chunk `j` of the weights landed. -/
theorem weLW (j : Fin 8) : (lWj j).view.WordExact := (Memref.isWhole_whole _).wordExact_slice rfl _ (wordsW j)
/-- So does chunk `j` of the activations to send. -/
theorem weSO (j : Fin 8) : (sOj j).view.WordExact := ((Memref.isWhole_whole _).wordExact_slice rfl _ (wordsO j)).reshape _ _
/-- So does chunk `j` of the activations landed. -/
theorem weLO (j : Fin 8) : (lOj j).view.WordExact := ((Memref.isWhole_whole _).wordExact_slice rfl _ (wordsO j)).reshape _ _

/-! ## The fragments -/

/-- Start the copy of batch `b` of the activations into its staging buffer. -/
def startX (b : Fin 4) : KProg F PUnit :=
  Prog.lift (.enqueueDma (mXb b) (.here (vXb b)) (.dma (inSem b)) (weX b) (weVX b) ⟨Or.inl rfl, trivial⟩)

/-- Start the copy of the weights into their staging buffer. -/
def startW : KProg F PUnit :=
  Prog.lift (.enqueueDma mW (.here vW) (.dma wSem) (Memref.isWhole_whole _).wordExact (Memref.isWhole_whole _).wordExact ⟨Or.inl rfl, trivial⟩)

/-- The handshake: signal both partners' barriers, then wait for both partners' signals. -/
def shake (d : Dev nD) : KProg F PUnit := do
  semSignalWord (⟨k0_dev1 d, k0_dev1_lt d⟩ : Dev nD) barSem 1#32
  semSignalWord (⟨k0_dev2 d, k0_dev2_lt d⟩ : Dev nD) barSem 1#32
  semWaitWord barSem 2#32

/-- Wait for the weights, and store them rounded to be sent; they are returned rounded. -/
def castW : KProg F (FVec F S512x1024 .bf16) := do
  Prog.lift (.waitDma2 wSem mW vW (Memref.isWhole_whole _).wordExact (Memref.isWhole_whole _).wordExact)
  let w : Vec F S512x1024 .f32 ← Prog.lift (.load vW rAll.toLoadRect (View.loadsAt_vmem h_S512x1024))
  let _ : Vec F S512x1024 .bf16 ← Prog.lift (.load sW rAll.toLoadRect (View.loadsAt_vmem h_S512x1024))
  Prog.lift (.store sW rAll (k0_pay59 w) Finset.univ
    (View.stores_vmem h_S512x1024 ((Memref.isWhole_whole _).storeExact_slice rfl _ packedbf16_S512x1024_S512x1024_0_0) (fun _ => rfl)) (.inl rfl))
  pure (k0_pay58 w)

/-- Wait for batch `b` of the activations, and store the partner's columns rounded to be sent. -/
def castX (d : Dev nD) (b : Fin 4) : KProg F PUnit := do
  Prog.lift (.waitDma2 (inSem b) (mXb b) (vXb b) (weX b) (weVX b))
  let x : Vec F S1x8x64x256 .f32 ← Prog.lift (.load vX (rP b d).toLoadRect (View.loadsAt_vmem h_S1x8x64x256))
  let _ : Vec F S1x512x256 .bf16 ← Prog.lift (.load sO (rS b).toLoadRect (View.loadsAt_vmem h_S1x512x256))
  Prog.lift (.store sO (rS b) (k0_pay60 x) Finset.univ
    (View.stores_vmem h_S1x512x256 ((Memref.isWhole_whole _).storeExact_slice rfl _ (packedS b)) (fun _ => rfl)) (.inl rfl))

/-- Send chunk `j` of the rounded weights to device `t`. -/
def sendW (t : Dev nD) (j : Fin 8) : KProg F PUnit :=
  Prog.lift (.enqueueDma (sWj j) (.remote (Dev.tc t) (lWj j) (.dma (xsSem j))) (.dma (woSem j)) (weSW j) (weLW j) ⟨⟨rfl, Or.inl rfl⟩, trivial⟩)

/-- Send chunk `j` of the rounded activations to device `t`. -/
def sendO (t : Dev nD) (j : Fin 8) : KProg F PUnit :=
  Prog.lift (.enqueueDma (sOj j) (.remote (Dev.tc t) (lOj j) (.dma (xsSem j))) (.dma (oSem j)) (weSO j) (weLO j) ⟨⟨rfl, Or.inl rfl⟩, trivial⟩)

/-- Load batch `b` of this device's own columns. -/
def loadOwn (d : Dev nD) (b : Fin 4) : KProg F (Vec F S1x8x64x256 .f32) :=
  Prog.lift (.load vX (rOwn b d).toLoadRect (View.loadsAt_vmem h_S1x8x64x256))

/-- Store into batch `b` of the accumulator (its old contents are read and dropped). -/
def putAcc (b : Fin 4) (v : FVec F S1x256x1024 .f32) : KProg F PUnit := do
  let _ : Vec F S1x256x1024 .f32 ← Prog.lift (.load vA (rR b).toLoadRect (View.loadsAt_vmem h_S1x256x1024))
  Prog.lift (.store vA (rR b) v Finset.univ (View.stores_vmem_bits_univ h_S1x256x1024 rfl) (.inl rfl))

/-- Wait for chunk `j` of the partner's weights and forward it to device `t`. -/
def relayW (t : Dev nD) (j : Fin 8) : KProg F PUnit := do
  Prog.lift (.waitDma2 (woSem j) (sWj j) (lWj j) (weSW j) (weLW j))
  Prog.lift (.enqueueDma (lWj j) (.remote (Dev.tc t) (lWj j) (.dma (fwSem j))) (.dma (woSem j)) (weLW j) (weLW j) ⟨⟨rfl, Or.inl rfl⟩, trivial⟩)

/-- Wait for chunk `j` of the partner's activations and forward it to device `t`. -/
def relayO (t : Dev nD) (j : Fin 8) : KProg F PUnit := do
  Prog.lift (.waitDma2 (oSem j) (sOj j) (lOj j) (weSO j) (weLO j))
  Prog.lift (.enqueueDma (lOj j) (.remote (Dev.tc t) (lOj j) (.dma (fwSem j))) (.dma (oSem j)) (weLO j) (weLO j) ⟨⟨rfl, Or.inl rfl⟩, trivial⟩)

/-- Wait for a forwarded chunk. -/
def gotO (j : Fin 8) : KProg F PUnit := Prog.lift (.waitDma2 (oSem j) (lOj j) (lOj j) (weLO j) (weLO j))
/-- Wait for chunk `j` of the weights. -/
def gotW (j : Fin 8) : KProg F PUnit := Prog.lift (.waitDma2 (woSem j) (lWj j) (lWj j) (weLW j) (weLW j))

/-- Add the product of tile `i` of batch `b` into the accumulator. -/
def tile (b i : Fin 4) : KProg F PUnit := do
  let a : Vec F S1x256x1024 .f32 ← Prog.lift (.load vA (rR b).toLoadRect (View.loadsAt_vmem h_S1x256x1024))
  let o : Vec F S1x128x256 .bf16 ← Prog.lift (.load lO (rTO b i).toLoadRect (View.loadsAt_vmem h_S1x128x256))
  let w : Vec F S128x1024 .bf16 ← Prog.lift (.load lW (rTW i).toLoadRect (View.loadsAt_vmem h_S128x1024))
  putAcc b (k0_pay1 a o w)

/-- The accumulated batch, rounded. -/
def roundAcc (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024

/-- Round batch `b` of the accumulator and start its copy to the result. -/
def flush (b : Fin 4) : KProg F PUnit := do
  let a : Vec F S1x256x1024 .f32 ← Prog.lift (.load vA (rR b).toLoadRect (View.loadsAt_vmem h_S1x256x1024))
  let _ : Vec F S1x256x1024 .bf16 ← Prog.lift (.load vB (rR b).toLoadRect (View.loadsAt_vmem h_S1x256x1024))
  Prog.lift (.store vB (rR b) (roundAcc a) Finset.univ
    (View.stores_vmem h_S1x256x1024 ((Memref.isWhole_whole _).storeExact_slice rfl _ (packedR b)) (fun _ => rfl)) (.inl rfl))
  Prog.lift (.enqueueDma (vBb b) (.here (mRb b)) (.dma (outSem b)) (weB b) (weR b) ⟨Or.inl rfl, trivial⟩)

/-- Wait for batch `b` of the result. -/
def waitR (b : Fin 4) : KProg F PUnit := Prog.lift (.waitDma2 (outSem b) (vBb b) (mRb b) (weB b) (weR b))

/-- The sends of the weights, and of the forwarded chunks, are over. -/
def doneW (j : Fin 8) : KProg F PUnit := do
  Prog.lift (.waitDma2 (xsSem j) (lWj j) (sWj j) (weLW j) (weSW j))
  Prog.lift (.waitDma2 (fwSem j) (lWj j) (lWj j) (weLW j) (weLW j))
/-- Wait until chunk `j` of the activations was sent and relayed. -/
def doneO (j : Fin 8) : KProg F PUnit := do
  Prog.lift (.waitDma2 (xsSem j) (lOj j) (sOj j) (weLO j) (weSO j))
  Prog.lift (.waitDma2 (fwSem j) (lOj j) (lOj j) (weLO j) (weLO j))

/-! ## The whole -/

/-- The bit the printed program calls `is_even`. -/
def evenBit (d : Dev nD) : BitVec 1 :=
  let v5 : BitVec 32 := Scalar.remsi (Scalar.divsi (Dev.word d) 4#32) 4#32
  let v24 : BitVec 32 := Scalar.select (Scalar.cmpi .eq 2#32 0#32) 1#32 2#32
  let v25 : BitVec 32 := Scalar.remsi v5 v24
  let v30 : BitVec 1 := Scalar.andi (Scalar.xori (Scalar.cmpi .slt v25 0#32) (Scalar.cmpi .slt v24 0#32)) (Scalar.cmpi .ne v25 0#32)
  Scalar.cmpi .eq (Scalar.select v30 (Scalar.addi v25 v24) v25) 0#32

/-- Up to the rounded operands. -/
def head : KProg F (Σ' (_ : Dev nD), FVec F S512x1024 .bf16) := do
  let d ← Prog.lift .deviceId
  startW
  seqN 4 startX
  shake d
  let w ← castW
  seqN 4 (castX d)
  pure ⟨d, w⟩

/-- The direct sends, by parity, then the first load of the own columns. -/
def direct (d : Dev nD) : KProg F (Vec F S1x8x64x256 .f32) := do
  if h : k0_cond1 d = 1#1 then seqN 8 (sendW ⟨k0_dev3 d, k0_dev3_lt d h⟩)
  else pure ⟨⟩
  if h : k0_cond2 d = 1#1 then seqN 8 (sendO ⟨k0_dev11 d, k0_dev11_lt d h⟩)
  else pure ⟨⟩
  loadOwn d 0

/-- The own products. -/
def own (d : Dev nD) (w : FVec F S512x1024 .bf16) (x : Vec F S1x8x64x256 .f32) : KProg F PUnit := do
  putAcc 0 (k0_pay64 w x)
  seqN 3 fun b => do
    let x ← loadOwn d b.succ
    putAcc b.succ (k0_pay64 w x)

/-- What an even device does after its own products: relay the weights, then one batch after the other. -/
def evenRest (t : Dev nD) : KProg F PUnit := do
  seqN 8 (relayW t)
  seqN 4 fun b => do
    gotO ⟨2 * b.val, by have := b.isLt; omega⟩
    gotO ⟨2 * b.val + 1, by have := b.isLt; omega⟩
    seqN 4 (tile b)
    flush b

/-- What an odd device does: relay the activations, then one contraction tile after the other. -/
def oddRest (t : Dev nD) : KProg F PUnit := do
  seqN 8 (relayO t)
  seqN 3 fun i => do
    gotW ⟨2 * i.val, by have := i.isLt; omega⟩
    gotW ⟨2 * i.val + 1, by have := i.isLt; omega⟩
    seqN 4 fun b => tile b i.castSucc
  gotW 6
  gotW 7
  seqN 4 fun b => do
    tile b 3
    flush b

/-- The relays of an even device, under their guard. -/
def relayE (d : Dev nD) : KProg F (BitVec 32) := do
  if h : k0_cond3 d = 1#1 then evenRest ⟨k0_dev19 d, k0_dev19_lt d h⟩
  else pure ⟨⟩
  pure (Scalar.extui (Scalar.xori (evenBit d) 1#1))

/-- The relays of an odd device, under their guard. -/
def relayD (d : Dev nD) : KProg F (BitVec 32) := do
  if h : k0_cond4 d = 1#1 then oddRest ⟨k0_dev27 d, k0_dev27_lt d h⟩
  else pure ⟨⟩
  pure (Scalar.extui (evenBit d))

/-- The last waits of an even device, under their guard. -/
def finE (d : Dev nD) (v : BitVec 32) : KProg F (BitVec 32) := do
  if _h : Scalar.cmpi .ne v 0#32 = 1#1 then do
    seqN 8 doneW
    seqN 4 waitR
  else pure ⟨⟩
  pure (Scalar.extui (Scalar.xori (evenBit d) 1#1))

/-- The last waits of an odd device, under their guard. -/
def finD (v : BitVec 32) : KProg F PUnit := do
  if _h : Scalar.cmpi .ne v 0#32 = 1#1 then do
    seqN 8 doneO
    seqN 4 waitR
  else pure ⟨⟩
  pure ⟨⟩

/-- The structured body. -/
def body : KProg F PUnit := do
  let ⟨d, w⟩ ← head
  let x ← direct d
  own d w x
  let _ ← relayE d
  let v ← relayD d
  let u ← finE d v
  finD u

set_option maxRecDepth 100000 in
/-- The printed body is the structured one. -/
theorem body_eq (t : Fin cfg0.N) : bodyAt0 (F := F) t = body := by
  unfold bodyAt0
  chain_rfl

end Cert.KernelIdeal.Gen
-- ==== Proof.Mesh.lean ====
/-
  The mesh: each device's two partners and its parity, and the printed program's device chains and branch
  conditions in those terms.
-/
module

public import proofs.«01_k».proof.Proof.Prog
public import Idealize.ShloMosaic.Lib.Decide

@[expose] public section

set_option synthInstance.maxSize 4096

noncomputable section

namespace Cert.KernelIdeal.Gen

open Idealize.ShloMosaic Idealize.SL.Sem

/-- The partner along the sharded axis: the other half of the contraction. -/
def xp (c : Dev nD) : Dev nD := ⟨(c.val + 16) % 32, Nat.mod_lt _ (by decide)⟩
/-- The partner that holds a copy of the same operands: relayed chunks come from it. -/
def yp (c : Dev nD) : Dev nD := ⟨(if c.val / 4 % 2 = 0 then c.val + 4 else c.val - 4) % 32, Nat.mod_lt _ (by decide)⟩
/-- The parity that splits the work of the transfers. -/
def ev (c : Dev nD) : Bool := c.val / 4 % 2 == 0

/-- The partner's partner is the device itself. -/
theorem xp_xp : ∀ c, xp (xp c) = c := by decide +kernel
/-- The neighbour's neighbour is the device itself. -/
theorem yp_yp : ∀ c, yp (yp c) = c := by decide +kernel
/-- A device and its partner have the same parity. -/
theorem ev_xp : ∀ c, ev (xp c) = ev c := by decide +kernel
/-- A device and its neighbour have opposite parities. -/
theorem ev_yp : ∀ c, ev (yp c) = !ev c := by decide +kernel

/-- The partner as a permutation of the devices. -/
def xpE : Dev nD ≃ Dev nD := ⟨xp, xp, xp_xp, xp_xp⟩
/-- The neighbour as a permutation of the devices. -/
def ypE : Dev nD ≃ Dev nD := ⟨yp, yp, yp_yp, yp_yp⟩

/-- The first device the barrier signals is the partner. -/
theorem dev1_eq : ∀ c : Dev nD, (⟨k0_dev1 c, k0_dev1_lt c⟩ : Dev nD) = xp c := by decide +kernel
/-- The second device the barrier signals is the neighbour. -/
theorem dev2_eq : ∀ c : Dev nD, (⟨k0_dev2 c, k0_dev2_lt c⟩ : Dev nD) = yp c := by decide +kernel
/-- An even device's weights go to the partner. -/
theorem dev3_eq : ∀ (c : Dev nD) (h : k0_cond1 c = 1#1), (⟨k0_dev3 c, k0_dev3_lt c h⟩ : Dev nD) = xp c := by decide +kernel
/-- An odd device's activations go to the partner. -/
theorem dev11_eq : ∀ (c : Dev nD) (h : k0_cond2 c = 1#1), (⟨k0_dev11 c, k0_dev11_lt c h⟩ : Dev nD) = xp c := by decide +kernel
/-- An even device relays to the neighbour. -/
theorem dev19_eq : ∀ (c : Dev nD) (h : k0_cond3 c = 1#1), (⟨k0_dev19 c, k0_dev19_lt c h⟩ : Dev nD) = yp c := by decide +kernel
/-- An odd device relays to the neighbour. -/
theorem dev27_eq : ∀ (c : Dev nD) (h : k0_cond4 c = 1#1), (⟨k0_dev27 c, k0_dev27_lt c h⟩ : Dev nD) = yp c := by decide +kernel

/-- The sends of the weights are guarded by even parity. -/
theorem cond1_iff : ∀ c : Dev nD, k0_cond1 c = 1#1 ↔ ev c = true := by decide +kernel
/-- The sends of the activations are guarded by odd parity. -/
theorem cond2_iff : ∀ c : Dev nD, k0_cond2 c = 1#1 ↔ ev c = false := by decide +kernel
/-- The relays of the weights are guarded by even parity. -/
theorem cond3_iff : ∀ c : Dev nD, k0_cond3 c = 1#1 ↔ ev c = true := by decide +kernel
/-- The relays of the activations are guarded by odd parity. -/
theorem cond4_iff : ∀ c : Dev nD, k0_cond4 c = 1#1 ↔ ev c = false := by decide +kernel
/-- The last guard of the even devices is even parity. -/
theorem condE_iff : ∀ c : Dev nD, Scalar.cmpi .ne (Scalar.extui (evenBit c) : BitVec 32) 0#32 = 1#1 ↔ ev c = true := by decide +kernel
/-- The last guard of the odd devices is odd parity. -/
theorem condD_iff : ∀ c : Dev nD, Scalar.cmpi .ne (Scalar.extui (Scalar.xori (evenBit c) 1#1) : BitVec 32) 0#32 = 1#1 ↔ ev c = false := by
  decide +kernel

/-- The first column of the partner's half. -/
theorem off1_eq : ∀ c : Dev nD, k0_off1 c 3 = 256 * (1 - c.val / 16) := by decide +kernel
/-- The first column of the own half. -/
theorem off5_eq : ∀ c : Dev nD, k0_off5 c 3 = 256 * (c.val / 16) := by decide +kernel

/-- All landing places of the weights' chunks bring the same credit. -/
theorem credit_lW (j : Fin 8) : (lWj j).view.dmaCredit = (lWj 0).view.dmaCredit := rfl
/-- So do the places they are sent from. -/
theorem credit_sW (j : Fin 8) : (sWj j).view.dmaCredit = (lWj 0).view.dmaCredit := rfl
/-- All landing places of the activations' chunks bring the same credit. -/
theorem credit_lO (j : Fin 8) : (lOj j).view.dmaCredit = (lOj 0).view.dmaCredit := rfl
/-- So do the places they are sent from. -/
theorem credit_sO (j : Fin 8) : (sOj j).view.dmaCredit = (lOj 0).view.dmaCredit := rfl
/-- A chunk of weights and a chunk of activations bring the same credit. -/
theorem credit_WO : (lWj 0).view.dmaCredit = (lOj 0).view.dmaCredit := by decide +kernel

end Cert.KernelIdeal.Gen
-- ==== Proof.Content.lean ====
/-
  What every buffer of the kernel holds at each stage, as functions of the two operands of every device: the rounded
  operands sent, the operands landed, the accumulator after each tile, and the result.
-/
module

public import proofs.«01_k».proof.Proof.Mesh

@[expose] public section

set_option synthInstance.maxSize 4096

noncomputable section

namespace Cert.KernelIdeal.Gen

open Idealize.ShloMosaic Idealize.SL.Sem

variable {F : FTy → Type} [FloatOps F]

/-- The position of a three-axis index inside its batch. -/
def inBatchS (i : S4x512x256.Idx) : S1x512x256.Idx
  | 0 => (0 : Fin 1)
  | 1 => i 1
  | 2 => i 2
/-- The same, of a result. -/
def inBatchR (i : S4x256x1024.Idx) : S1x256x1024.Idx
  | 0 => (0 : Fin 1)
  | 1 => i 1
  | 2 => i 2

/-- A place in batch `b` of the rounded activations is in batch `b`. -/
theorem rS_emb_batch (b : Fin 4) (x : S1x512x256.Idx) : (rS b).emb x 0 = b := by
  refine Fin.ext ?_
  have h : (x 0).val < 1 := (x 0).isLt
  show b.val + 1 * (x 0).val = b.val
  omega
/-- Its position inside the batch is the one it was taken at. -/
theorem rS_emb_in (b : Fin 4) (x : S1x512x256.Idx) : inBatchS ((rS b).emb x) = x := by
  have h : (x 0).val < 1 := (x 0).isLt
  funext a
  refine Fin.ext ?_
  match a with
  | 0 => show 0 = (x 0).val; omega
  | 1 => show 0 + 1 * (x 1).val = (x 1).val; omega
  | 2 => show 0 + 1 * (x 2).val = (x 2).val; omega
/-- A place in batch `b` of a result is in batch `b`. -/
theorem rR_emb_batch (b : Fin 4) (x : S1x256x1024.Idx) : (rR b).emb x 0 = b := by
  refine Fin.ext ?_
  have h : (x 0).val < 1 := (x 0).isLt
  show b.val + 1 * (x 0).val = b.val
  omega
/-- Its position inside the batch is the one it was taken at. -/
theorem rR_emb_in (b : Fin 4) (x : S1x256x1024.Idx) : inBatchR ((rR b).emb x) = x := by
  have h : (x 0).val < 1 := (x 0).isLt
  funext a
  refine Fin.ext ?_
  match a with
  | 0 => show 0 = (x 0).val; omega
  | 1 => show 0 + 1 * (x 1).val = (x 1).val; omega
  | 2 => show 0 + 1 * (x 2).val = (x 2).val; omega

section

variable (X : Dev nD → Vec F S4x8x64x512 .f32) (W : Dev nD → Vec F S512x1024 .f32)

/-- The columns of batch `b` the partner needs, and the own ones. -/
def forX (c : Dev nD) (b : Fin 4) : Vec F S1x8x64x256 .f32 := fun x => X c ((rP b c).emb x)
/-- The own columns of batch `b`. -/
def ownX (c : Dev nD) (b : Fin 4) : Vec F S1x8x64x256 .f32 := fun x => X c ((rOwn b c).emb x)

/-- The rounded weights, and the rounded activations for the partner. -/
def gSW (c : Dev nD) : Vec F S512x1024 .bf16 := k0_pay59 (W c)
/-- The rounded activations for the partner. -/
def gSO (c : Dev nD) : Vec F S4x512x256 .bf16 := fun i => k0_pay60 (forX X c (i 0)) (inBatchS i)

/-- Whose weights, and whose activations, land on device `c`. -/
def srcW (c : Dev nD) : Dev nD := if ev c then xp c else xp (yp c)
/-- Whose activations land on device `c`. -/
def srcO (c : Dev nD) : Dev nD := if ev c then xp (yp c) else xp c

/-- The weights and the activations landed. -/
def gLW (c : Dev nD) : Vec F S512x1024 .bf16 := gSW W (srcW c)
/-- The activations landed. -/
def gLO (c : Dev nD) : Vec F S4x512x256 .bf16 := gSO X (srcO c)

/-- A tile of each. -/
def tO (c : Dev nD) (b i : Fin 4) : Vec F S1x128x256 .bf16 := fun x => gLO X c ((rTO b i).emb x)
/-- Tile `i` of the weights landed. -/
def tW (c : Dev nD) (i : Fin 4) : Vec F S128x1024 .bf16 := fun x => gLW W c ((rTW i).emb x)

/-- Batch `b` of the accumulator after the own product and `t` tiles. -/
def acc (c : Dev nD) (b : Fin 4) : ℕ → FVec F S1x256x1024 .f32
  | 0 => k0_pay64 (k0_pay58 (W c)) (ownX X c b)
  | t + 1 => k0_pay1 (acc c b t) (tO X c b (Fin.ofNat 4 t)) (tW W c (Fin.ofNat 4 t))

/-- One tile more in the accumulator. -/
theorem acc_succ (c : Dev nD) (b i : Fin 4) : acc X W c b (i.val + 1) = k0_pay1 (acc X W c b i.val) (tO X c b i) (tW W c i) := by
  show k0_pay1 _ (tO X c b (Fin.ofNat 4 i.val)) (tW W c (Fin.ofNat 4 i.val)) = _
  rw [show Fin.ofNat 4 i.val = i from Fin.ext (Nat.mod_eq_of_lt i.isLt)]

/-- The accumulator with every batch after `t` tiles, and the result. -/
def gA (c : Dev nD) (t : ℕ) : Vec F S4x256x1024 .f32 := fun i => acc X W c (i 0) t (inBatchR i)
/-- The result. -/
def gR (c : Dev nD) : Vec F S4x256x1024 .bf16 := fun i => roundAcc (acc X W c (i 0) 4) (inBatchR i)

end

/-! ## What an access reads and a write leaves -/

section

variable (X : Dev nD → Vec F S4x8x64x512 .f32) (W : Dev nD → Vec F S512x1024 .f32) (c : Dev nD)

/-- Reading the partner's columns of the staged activations. -/
theorem read_forX (b : Fin 4) : (vX.access (rP b c)).read (Elt F) (X c) = forX X c b := rfl
/-- Reading the own columns of the staged activations. -/
theorem read_ownX (b : Fin 4) : (vX.access (rOwn b c)).read (Elt F) (X c) = ownX X c b := rfl
/-- Reading a tile of the activations landed. -/
theorem read_tO (b i : Fin 4) : (lO.access (rTO b i)).read (Elt F) (gLO X c) = tO X c b i := rfl
/-- Reading a tile of the weights landed. -/
theorem read_tW (i : Fin 4) : (lW.access (rTW i)).read (Elt F) (gLW W c) = tW W c i := rfl
/-- Reading a batch of the accumulator. -/
theorem read_gA (b : Fin 4) (t : ℕ) : (vA.access (rR b)).read (Elt F) (gA X W c t) = acc X W c b t := by
  funext x
  show acc X W c ((rR b).emb x 0) t (inBatchR ((rR b).emb x)) = _
  rw [rR_emb_batch, rR_emb_in]

/-- Storing a batch of the rounded activations leaves their contents there. -/
theorem write_gSO (b : Fin 4) (f : Vec F S4x512x256 .bf16) :
    ∀ i ∈ (sO.access (rS b)).set, (sO.access (rS b)).write (Elt F) f (k0_pay60 (forX X c b)) Finset.univ i = gSO X c i := by
  intro i hi
  obtain ⟨x, -, rfl⟩ := Finset.mem_map.mp hi
  rw [View.write_emb_of_mem _ _ (Finset.mem_univ x)]
  show k0_pay60 (forX X c b) x = k0_pay60 (forX X c ((rS b).emb x 0)) (inBatchS ((rS b).emb x))
  rw [rS_emb_batch, rS_emb_in]

/-- Storing a batch of the accumulator leaves its contents there. -/
theorem write_gA (b : Fin 4) (t : ℕ) (f : Vec F S4x256x1024 .f32) :
    ∀ i ∈ (vA.access (rR b)).set, (vA.access (rR b)).write (Elt F) f (acc X W c b t) Finset.univ i = gA X W c t i := by
  intro i hi
  obtain ⟨x, -, rfl⟩ := Finset.mem_map.mp hi
  rw [View.write_emb_of_mem _ _ (Finset.mem_univ x)]
  show acc X W c b t x = acc X W c ((rR b).emb x 0) t (inBatchR ((rR b).emb x))
  rw [rR_emb_batch, rR_emb_in]

/-- Storing a batch of the rounded result leaves its contents there. -/
theorem write_gR (b : Fin 4) (f : Vec F S4x256x1024 .bf16) :
    ∀ i ∈ (vB.access (rR b)).set, (vB.access (rR b)).write (Elt F) f (roundAcc (acc X W c b 4)) Finset.univ i = gR X W c i := by
  intro i hi
  obtain ⟨x, -, rfl⟩ := Finset.mem_map.mp hi
  rw [View.write_emb_of_mem _ _ (Finset.mem_univ x)]
  show roundAcc (acc X W c b 4) x = roundAcc (acc X W c ((rR b).emb x 0) 4) (inBatchR ((rR b).emb x))
  rw [rR_emb_batch, rR_emb_in]

/-- A transfer between the same places of two buffers leaves the source's contents there. -/
theorem landX (b : Fin 4) (fd fs : Vec F S4x8x64x512 .f32) :
    ∀ i ∈ (vXb b).view.set, (vXb b).view.write (Elt F) fd ((mXb b).view.read (Elt F) fs) Finset.univ i = fs i := by
  intro i hi
  obtain ⟨x, -, rfl⟩ := Finset.mem_map.mp hi
  rw [View.write_emb_of_mem _ _ (Finset.mem_univ x)]; rfl
/-- The same, of a batch of the result. -/
theorem landR (b : Fin 4) (fd fs : Vec F S4x256x1024 .bf16) :
    ∀ i ∈ (mRb b).view.set, (mRb b).view.write (Elt F) fd ((vBb b).view.read (Elt F) fs) Finset.univ i = fs i := by
  intro i hi
  obtain ⟨x, -, rfl⟩ := Finset.mem_map.mp hi
  rw [View.write_emb_of_mem _ _ (Finset.mem_univ x)]; rfl
/-- The same, of a chunk of weights sent. -/
theorem landSW (j : Fin 8) (fd fs : Vec F S512x1024 .bf16) :
    ∀ i ∈ (lWj j).view.set, (lWj j).view.write (Elt F) fd ((sWj j).view.read (Elt F) fs) Finset.univ i = fs i := by
  intro i hi
  obtain ⟨x, -, rfl⟩ := Finset.mem_map.mp hi
  rw [View.write_emb_of_mem _ _ (Finset.mem_univ x)]; rfl
/-- The same, of a chunk of weights relayed. -/
theorem landLW (j : Fin 8) (fd fs : Vec F S512x1024 .bf16) :
    ∀ i ∈ (lWj j).view.set, (lWj j).view.write (Elt F) fd ((lWj j).view.read (Elt F) fs) Finset.univ i = fs i := by
  intro i hi
  obtain ⟨x, -, rfl⟩ := Finset.mem_map.mp hi
  rw [View.write_emb_of_mem _ _ (Finset.mem_univ x)]; rfl
/-- The same, of a chunk of activations sent. -/
theorem landSO (j : Fin 8) (fd fs : Vec F S4x512x256 .bf16) :
    ∀ i ∈ (lOj j).view.set, (lOj j).view.write (Elt F) fd ((sOj j).view.read (Elt F) fs) Finset.univ i = fs i := by
  intro i hi
  obtain ⟨x, -, rfl⟩ := Finset.mem_map.mp hi
  rw [View.write_emb_of_mem _ _ (Finset.mem_univ x)]; rfl
/-- The same, of a chunk of activations relayed. -/
theorem landLO (j : Fin 8) (fd fs : Vec F S4x512x256 .bf16) :
    ∀ i ∈ (lOj j).view.set, (lOj j).view.write (Elt F) fd ((lOj j).view.read (Elt F) fs) Finset.univ i = fs i := by
  intro i hi
  obtain ⟨x, -, rfl⟩ := Finset.mem_map.mp hi
  rw [View.write_emb_of_mem _ _ (Finset.mem_univ x)]; rfl
/-- The same, of the whole weights. -/
theorem landWW (fd fs : Vec F S512x1024 .f32) : vW.view.write (Elt F) fd (mW.view.read (Elt F) fs) Finset.univ = fs := by
  show (View.whole cc0_scratch0).write (Elt F) fd ((View.whole main_arg1).read (Elt F) fs) Finset.univ = fs
  rw [View.read_whole]
  exact View.write_whole_univ _ _ _

/-- Whose operands land, along the two transfers. -/
theorem gLW_xp (h : ev c = true) : gLW W (xp c) = gSW W c := by
  unfold gLW srcW; rw [ev_xp, h, if_pos rfl, xp_xp]
/-- What an odd device sends lands on its partner. -/
theorem gLO_xp (h : ev c = false) : gLO X (xp c) = gSO X c := by
  unfold gLO srcO; rw [ev_xp, h, if_neg Bool.false_ne_true, xp_xp]
/-- What an even device relays lands on its neighbour. -/
theorem gLW_yp (h : ev c = true) : gLW W (yp c) = gLW W c := by
  unfold gLW srcW; rw [ev_yp, h]; simp [yp_yp]
/-- What an odd device relays lands on its neighbour. -/
theorem gLO_yp (h : ev c = false) : gLO X (yp c) = gLO X c := by
  unfold gLO srcO; rw [ev_yp, h]; simp [yp_yp]

end

end Cert.KernelIdeal.Gen
-- ==== Proof.Sets.lean ====
/-
  The element sets the kernel's accesses and transfers touch: the batches and the chunks partition their buffers, and a
  tile is made of two chunks.
-/
module

public import proofs.«01_k».proof.Proof.Content

@[expose] public section

set_option synthInstance.maxSize 4096

noncomputable section

namespace Cert.KernelIdeal.Gen

open Idealize.ShloMosaic Idealize.SL.Sem

/-- The sets are pairwise disjoint and cover. -/
abbrev Parts {T A : Type} [Fintype T] [Fintype A] [DecidableEq A] (K : T → Finset A) : Prop :=
  (∀ t ∈ (Finset.univ : Finset T), ∀ t' ∈ (Finset.univ : Finset T), t ≠ t' → Disjoint (K t) (K t')) ∧ Finset.univ.biUnion K = Finset.univ

/-- The fibres of a map do. -/
theorem fibres {T A : Type} [Fintype T] [Fintype A] [DecidableEq A] {K : T → Finset A} (k : A → T) (h : ∀ t i, i ∈ K t ↔ k i = t) : Parts K := by
  refine ⟨fun t _ t' _ ht => Finset.disjoint_left.mpr fun i hi hi' => ht (((h t i).mp hi).symm.trans ((h t' i).mp hi')), ?_⟩
  ext i
  simp only [Finset.mem_biUnion, Finset.mem_univ, true_and, iff_true]
  exact ⟨k i, (h _ _).mpr rfl⟩

/-- Batch `b` of the staged activations, by the first coordinate. -/
theorem mem_rX (b : Fin 4) (i : S4x8x64x512.Idx) : i ∈ (rX b).set ↔ i 0 = b := by
  have h1 : (i 1).val < 8 := (i 1).isLt
  have h2 : (i 2).val < 64 := (i 2).isLt
  have h3 : (i 3).val < 512 := (i 3).isLt
  rw [Rect.mem_set_unit]
  constructor
  · intro h
    have h0 : b.val ≤ (i 0).val ∧ (i 0).val < b.val + 1 := h 0
    exact Fin.ext (by omega)
  · rintro rfl a
    match a with
    | 0 => exact ⟨Nat.le_refl _, Nat.lt_succ_self _⟩
    | 1 => exact ⟨Nat.zero_le _, by show (i 1).val < 0 + 8; omega⟩
    | 2 => exact ⟨Nat.zero_le _, by show (i 2).val < 0 + 64; omega⟩
    | 3 => exact ⟨Nat.zero_le _, by show (i 3).val < 0 + 512; omega⟩

/-- Batch `b` of a result, by the first coordinate. -/
theorem mem_rR (b : Fin 4) (i : S4x256x1024.Idx) : i ∈ (rR b).set ↔ i 0 = b := by
  have h1 : (i 1).val < 256 := (i 1).isLt
  have h2 : (i 2).val < 1024 := (i 2).isLt
  rw [Rect.mem_set_unit]
  constructor
  · intro h
    have h0 : b.val ≤ (i 0).val ∧ (i 0).val < b.val + 1 := h 0
    exact Fin.ext (by omega)
  · rintro rfl a
    match a with
    | 0 => exact ⟨Nat.le_refl _, Nat.lt_succ_self _⟩
    | 1 => exact ⟨Nat.zero_le _, by show (i 1).val < 0 + 256; omega⟩
    | 2 => exact ⟨Nat.zero_le _, by show (i 2).val < 0 + 1024; omega⟩

/-- Batch `b` of the rounded activations, by the first coordinate. -/
theorem mem_rS (b : Fin 4) (i : S4x512x256.Idx) : i ∈ (rS b).set ↔ i 0 = b := by
  have h1 : (i 1).val < 512 := (i 1).isLt
  have h2 : (i 2).val < 256 := (i 2).isLt
  rw [Rect.mem_set_unit]
  constructor
  · intro h
    have h0 : b.val ≤ (i 0).val ∧ (i 0).val < b.val + 1 := h 0
    exact Fin.ext (by omega)
  · rintro rfl a
    match a with
    | 0 => exact ⟨Nat.le_refl _, Nat.lt_succ_self _⟩
    | 1 => exact ⟨Nat.zero_le _, by show (i 1).val < 0 + 512; omega⟩
    | 2 => exact ⟨Nat.zero_le _, by show (i 2).val < 0 + 256; omega⟩

/-- The chunk an element of the weights lies in. -/
def chunkW (i : S512x1024.Idx) : Fin 8 := ⟨(i 0).val / 64, by have : (i 0).val < 512 := (i 0).isLt; omega⟩
/-- The chunk an element of the activations lies in. -/
def chunkO (i : S4x512x256.Idx) : Fin 8 :=
  ⟨2 * (i 0).val + (i 2).val / 128, by have : (i 0).val < 4 := (i 0).isLt; have : (i 2).val < 256 := (i 2).isLt; omega⟩

/-- Chunk `j` of the weights, by the number of the chunk. -/
theorem mem_rW (j : Fin 8) (i : S512x1024.Idx) : i ∈ (rW j).set ↔ chunkW i = j := by
  have h1 : (i 1).val < 1024 := (i 1).isLt
  rw [Rect.mem_set_unit]
  constructor
  · intro h
    have h0 : 64 * j.val ≤ (i 0).val ∧ (i 0).val < 64 * j.val + 64 := h 0
    exact Fin.ext (by show (i 0).val / 64 = j.val; omega)
  · rintro rfl a
    match a with
    | 0 => exact ⟨by show 64 * ((i 0).val / 64) ≤ (i 0).val; omega, by show (i 0).val < 64 * ((i 0).val / 64) + 64; omega⟩
    | 1 => exact ⟨Nat.zero_le _, by show (i 1).val < 0 + 1024; omega⟩

/-- Chunk `j` of the activations, by the number of the chunk. -/
theorem mem_rO (j : Fin 8) (i : S4x512x256.Idx) : i ∈ (rO j).set ↔ chunkO i = j := by
  have h1 : (i 1).val < 512 := (i 1).isLt
  have h2 : (i 2).val < 256 := (i 2).isLt
  rw [Rect.mem_set_unit]
  constructor
  · intro h
    have h0 : j.val / 2 ≤ (i 0).val ∧ (i 0).val < j.val / 2 + 1 := h 0
    have h2 : 128 * (j.val % 2) ≤ (i 2).val ∧ (i 2).val < 128 * (j.val % 2) + 128 := h 2
    exact Fin.ext (by show 2 * (i 0).val + (i 2).val / 128 = j.val; omega)
  · rintro rfl a
    match a with
    | 0 => exact ⟨by show (2 * (i 0).val + (i 2).val / 128) / 2 ≤ (i 0).val; omega,
        by show (i 0).val < (2 * (i 0).val + (i 2).val / 128) / 2 + 1; omega⟩
    | 1 => exact ⟨Nat.zero_le _, by show (i 1).val < 0 + 512; omega⟩
    | 2 => exact ⟨by show 128 * ((2 * (i 0).val + (i 2).val / 128) % 2) ≤ (i 2).val; omega,
        by show (i 2).val < 128 * ((2 * (i 0).val + (i 2).val / 128) % 2) + 128; omega⟩

/-- The two chunks of a pair. -/
abbrev lo (b : Fin 4) : Fin 8 := ⟨2 * b.val, by have := b.isLt; omega⟩
/-- The second chunk of the pair `b`. -/
abbrev hi (b : Fin 4) : Fin 8 := ⟨2 * b.val + 1, by have := b.isLt; omega⟩
/-- The two chunks of a pair are different. -/
theorem lo_ne_hi (b : Fin 4) : lo b ≠ hi b := fun h => by have := congrArg Fin.val h; dsimp only at this; omega

/-- Two chunks of the activations make a batch. -/
theorem pairO_set (b : Fin 4) : (rO (lo b)).set ∪ (rO (hi b)).set = (rS b).set := by
  ext i
  have h2 : (i 2).val < 256 := (i 2).isLt
  rw [Finset.mem_union, mem_rO, mem_rO, mem_rS, Fin.ext_iff, Fin.ext_iff]
  refine Iff.trans ?_ (Fin.ext_iff (a := (i 0 : Fin 4)) (b := b)).symm
  show 2 * (i 0).val + (i 2).val / 128 = 2 * b.val ∨ 2 * (i 0).val + (i 2).val / 128 = 2 * b.val + 1 ↔ (i 0).val = b.val
  omega
/-- The two chunks of a batch don't meet. -/
theorem pairO_disj (b : Fin 4) : Disjoint (rO (lo b)).set (rO (hi b)).set :=
  Finset.disjoint_left.mpr fun i h h' => lo_ne_hi b (((mem_rO _ i).mp h).symm.trans ((mem_rO _ i).mp h'))

/-- Tile `i` of the weights, by the row. -/
theorem mem_rTW (i : Fin 4) (x : S512x1024.Idx) : x ∈ (rTW i).set ↔ (x 0).val / 128 = i.val := by
  have h1 : (x 1).val < 1024 := (x 1).isLt
  rw [Rect.mem_set_unit]
  constructor
  · intro h
    have h0 : 128 * i.val ≤ (x 0).val ∧ (x 0).val < 128 * i.val + 128 := h 0
    omega
  · rintro h a
    match a with
    | 0 => exact ⟨by show 128 * i.val ≤ (x 0).val; omega, by show (x 0).val < 128 * i.val + 128; omega⟩
    | 1 => exact ⟨Nat.zero_le _, by show (x 1).val < 0 + 1024; omega⟩

/-- Two chunks of the weights make a tile. -/
theorem pairW_set (b : Fin 4) : (rW (lo b)).set ∪ (rW (hi b)).set = (rTW b).set := by
  ext i
  rw [Finset.mem_union, mem_rW, mem_rW, mem_rTW, Fin.ext_iff, Fin.ext_iff]
  show (i 0).val / 64 = 2 * b.val ∨ (i 0).val / 64 = 2 * b.val + 1 ↔ (i 0).val / 128 = b.val
  omega
/-- The two chunks of a tile don't meet. -/
theorem pairW_disj (b : Fin 4) : Disjoint (rW (lo b)).set (rW (hi b)).set :=
  Finset.disjoint_left.mpr fun i h h' => lo_ne_hi b (((mem_rW _ i).mp h).symm.trans ((mem_rW _ i).mp h'))

/-- A tile of the activations lies in its batch. -/
theorem rTO_sub (b i : Fin 4) : (rTO b i).set ⊆ (rS b).set := by
  intro x hx
  have h0 : b.val ≤ (x 0).val ∧ (x 0).val < b.val + 1 := (Rect.mem_set_unit.mp hx) 0
  exact (mem_rS b x).mpr (Fin.ext (by omega))
/-- The partner's columns of a batch lie in the batch. -/
theorem rP_sub (b : Fin 4) (c : Dev nD) : (rP b c).set ⊆ (rX b).set := by
  intro x hx
  have h0 : b.val ≤ (x 0).val ∧ (x 0).val < b.val + 1 := (Rect.mem_set_unit.mp hx) 0
  exact (mem_rX b x).mpr (Fin.ext (by omega))

/-- The batches cut the staged activations. -/
theorem fibX : Parts fun b => (rX b).set := fibres (fun i => i 0) mem_rX
/-- The batches cut a result. -/
theorem fibR : Parts fun b => (rR b).set := fibres (fun i => i 0) mem_rR
/-- The batches cut the rounded activations. -/
theorem fibS : Parts fun b => (rS b).set := fibres (fun i => i 0) mem_rS
/-- The chunks cut the weights. -/
theorem fibW : Parts fun j => (rW j).set := fibres chunkW mem_rW
/-- The chunks cut the activations. -/
theorem fibO : Parts fun j => (rO j).set := fibres chunkO mem_rO

/-! ## The views' sets -/

/-- The elements of batch `b` of the activations in HBM. -/
theorem set_mXb (b : Fin 4) : (mXb b).view.set = (rX b).set := by
  show (((View.whole main_v1).slice (rX b)).reshape _ _).set = _
  rw [View.set_reshape, View.set_slice_whole]
/-- The elements of batch `b` of the staged activations. -/
theorem set_vXb (b : Fin 4) : (vXb b).view.set = (rX b).set := by
  show (((View.whole cc0_scratch1).slice (rX b)).reshape _ _).set = _
  rw [View.set_reshape, View.set_slice_whole]
/-- The elements of batch `b` of the result in HBM. -/
theorem set_mRb (b : Fin 4) : (mRb b).view.set = (rR b).set := by
  show (((View.whole main_v2).slice (rR b)).reshape _ _).set = _
  rw [View.set_reshape, View.set_slice_whole]
/-- The elements of batch `b` of the rounded result. -/
theorem set_vBb (b : Fin 4) : (vBb b).view.set = (rR b).set := by
  show (((View.whole cc0_scratch3).slice (rR b)).reshape _ _).set = _
  rw [View.set_reshape, View.set_slice_whole]
/-- The elements of chunk `j` of the weights to send. -/
theorem set_sWj (j : Fin 8) : (sWj j).view.set = (rW j).set := View.set_slice_whole cc0_scratch4 (rW j)
/-- The elements of chunk `j` of the weights landed. -/
theorem set_lWj (j : Fin 8) : (lWj j).view.set = (rW j).set := View.set_slice_whole cc0_scratch5 (rW j)
/-- The elements of chunk `j` of the activations to send. -/
theorem set_sOj (j : Fin 8) : (sOj j).view.set = (rO j).set := by
  show (((View.whole cc0_scratch6).slice (rO j)).reshape _ _).set = _
  rw [View.set_reshape, View.set_slice_whole]
/-- The elements of chunk `j` of the activations landed. -/
theorem set_lOj (j : Fin 8) : (lOj j).view.set = (rO j).set := by
  show (((View.whole cc0_scratch7).slice (rO j)).reshape _ _).set = _
  rw [View.set_reshape, View.set_slice_whole]

end Cert.KernelIdeal.Gen
-- ==== Proof.Protocol.lean ====
/-
  The protocol of the semaphores: which cell pays what to whom, what each device owes at launch, and the order in
  which it may wait.
-/
module

public import proofs.«01_k».proof.Proof.Sets
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Harness.Basic

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The kinds of DMA semaphores -/

/-- The weights' staging, the activations' staging, the result, the direct sends, the weights' landing, the
    activations' landing, the forwards. -/
abbrev SK : Type := Unit ⊕ (Fin 4 ⊕ (Fin 4 ⊕ (Fin 8 ⊕ (Fin 8 ⊕ (Fin 8 ⊕ Fin 8)))))
abbrev kW : SK := .inl ()
abbrev kIn (b : Fin 4) : SK := .inr (.inl b)
abbrev kOut (b : Fin 4) : SK := .inr (.inr (.inl b))
abbrev kXs (j : Fin 8) : SK := .inr (.inr (.inr (.inl j)))
abbrev kWo (j : Fin 8) : SK := .inr (.inr (.inr (.inr (.inl j))))
abbrev kO (j : Fin 8) : SK := .inr (.inr (.inr (.inr (.inr (.inl j)))))
abbrev kFw (j : Fin 8) : SK := .inr (.inr (.inr (.inr (.inr (.inr j)))))

/-- The semaphore of each kind. -/
def semOf : SK → DmaSem sig :=
  Sum.elim (fun _ => wSem) (Sum.elim inSem (Sum.elim outSem (Sum.elim xsSem (Sum.elim woSem (Sum.elim oSem fwSem)))))
/-- Every DMA semaphore is of exactly one kind. -/
theorem semOf_bij : Function.Bijective semOf := by decide +kernel
/-- The kinds and the DMA semaphores, one to one. -/
def semE : SK ≃ DmaSem sig := Equiv.ofBijective semOf semOf_bij
/-- The kind of a semaphore. -/
def kindOf (s : DmaSem sig) : SK := semE.symm s
/-- The kind of a kind's semaphore. -/
theorem kindOf_semOf (k : SK) : kindOf (semOf k) = k := semE.symm_apply_apply k

/-- The credit of a transfer into `m`, kept from being computed. -/
@[irreducible] def creditOf {sp : Space} {s : Shape} {e : EltTy} (m : Memref sig .tc sp s e) : ℕ := m.view.dmaCredit
/-- The credit of a transfer by its name. -/
theorem creditOf_eq {sp : Space} {s : Shape} {e : EltTy} (m : Memref sig .tc sp s e) : m.view.dmaCredit = creditOf m := by
  unfold creditOf; rfl
/-- A transfer that moves something brings some credit. -/
theorem creditOf_pos {sp : Space} {s : Shape} {e : EltTy} (m : Memref sig .tc sp s e) (h : 0 < s.numel) : 0 < creditOf m := by
  rw [← creditOf_eq]; exact View.dmaCredit_pos _ h
/-- The credit of one transferred chunk. -/
abbrev NC : ℕ := creditOf (lWj 0)
/-- A chunk brings some credit. -/
theorem NC_pos : 0 < NC := creditOf_pos _ (by decide)
/-- The amount a cell of each kind waits for. -/
def amtP : SK → { n : ℕ // 0 < n } :=
  Sum.elim (fun _ => ⟨creditOf vW, creditOf_pos _ (by decide)⟩) (Sum.elim (fun b => ⟨creditOf (vXb b), creditOf_pos _ (by decide)⟩)
    (Sum.elim (fun b => ⟨creditOf (mRb b), creditOf_pos _ (by decide)⟩)
    (Sum.elim (fun _ => ⟨NC, NC_pos⟩) (Sum.elim (fun _ => ⟨NC, NC_pos⟩) (Sum.elim (fun _ => ⟨NC, NC_pos⟩) fun _ => ⟨NC, NC_pos⟩)))))
/-- The amount a cell of each kind waits for. -/
def amt (k : SK) : ℕ := (amtP k).1
/-- Every cell waits for something. -/
theorem amt_pos (k : SK) : 0 < amt k := (amtP k).2

/-- The landing cell of what a device of parity `e` sends. -/
def dk (e : Bool) (j : Fin 8) : SK := if e then kWo j else kO j
/-- A landing cell waits for one chunk. -/
theorem amt_dk (e : Bool) (j : Fin 8) : amt (dk e j) = NC := by cases e <;> rfl

/-! ## Resources -/

abbrev UU : Type := URounds (GSem nD τ sig) Unit × URounds (GSem nD τ sig) (Fin 2)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 2)) (MT nD τ sig Unit (Elt F) ℕ UU ℕ) := embR

/-- Device `c`'s barrier. -/
abbrev barCell (c : Dev nD) : GSem nD τ sig := ((c : Thread nD τ), .reg barSem)
/-- Device `c`'s semaphore of kind `k`. -/
abbrev dcell (c : Dev nD) (k : SK) : GSem nD τ sig := ((c : Thread nD τ), .dma (semOf k))

/-- The elements `I` of device `c`'s buffer `b`. -/
abbrev pt (b : Ref sig .tc) (c : Dev nD) (I : Finset (Idx ((c : Thread nD τ).loc b))) (q : PosShare TreeShare)
    (f : Buf (Elt F) ((c : Thread nD τ).loc b)) : sProp 𝕄 := ((c : Thread nD τ).loc b) ↦[I]{q} f

/-- The same at contents not chosen. -/
abbrev ptAny (b : Ref sig .tc) (c : Dev nD) (I : Finset (Idx ((c : Thread nD τ).loc b))) : sProp 𝕄 :=
  iprop(∃ f : Buf (Elt F) ((c : Thread nD τ).loc b), pt b c I fullShare f)

/-- The place chunk `j` from a device of parity `e` lands in on device `s`. -/
def lAny (e : Bool) (s : Dev nD) (j : Fin 8) : sProp 𝕄 :=
  match e with
  | true => ptAny cc0_scratch5 s (rW j).set
  | false => ptAny cc0_scratch7 s (rO j).set

/-- What device `s` gives a partner of parity `e` before anything is sent: the places to land in, and that their
    cells are open. -/
def land (e : Bool) (s : Dev nD) : sProp 𝕄 :=
  bigSep Finset.univ fun j : Fin 8 => iprop(lAny e s j ∗ reached ER (dcell s (dk e j)) 0)

section

variable (X : Dev nD → Vec F S4x8x64x512 .f32) (W : Dev nD → Vec F S512x1024 .f32)

/-- Chunk `j` landed on `c`, at share `q`. -/
def lPt (e : Bool) (c : Dev nD) (q : PosShare TreeShare) (j : Fin 8) : sProp 𝕄 :=
  match e with
  | true => pt cc0_scratch5 c (rW j).set q (gLW W c)
  | false => pt cc0_scratch7 c (rO j).set q (gLO X c)
/-- Chunk `j` as sent by `c`. -/
def sPt (e : Bool) (c : Dev nD) (j : Fin 8) : sProp 𝕄 :=
  match e with
  | true => pt cc0_scratch4 c (rW j).set fullShare (gSW W c)
  | false => pt cc0_scratch6 c (rO j).set fullShare (gSO X c)

/-- What device `c`'s DMA cell of kind `k` pays. -/
def pay (c : Dev nD) : SK → sProp 𝕄 :=
  Sum.elim (fun _ => iprop(pt cc0_scratch0 c Finset.univ fullShare (W c) ∗ pt main_arg1 c Finset.univ fullShare (W c)))
    (Sum.elim (fun b => iprop(pt cc0_scratch1 c (rX b).set fullShare (X c) ∗ pt main_v1 c (rX b).set fullShare (X c)))
    (Sum.elim (fun b => iprop(pt main_v2 c (rR b).set fullShare (gR X W c) ∗ pt cc0_scratch3 c (rR b).set fullShare (gR X W c)))
    (Sum.elim (fun j => sPt X W (ev c) c j)
    (Sum.elim (fun j => lPt X W true c fullShare j)
    (Sum.elim (fun j => lPt X W false c fullShare j)
      (fun j => lPt X W (ev c) c fullShare.left j))))))

/-- A landing cell pays the chunk landed, whole. -/
theorem pay_dk (e : Bool) (c : Dev nD) (j : Fin 8) : pay X W c (dk e j) = lPt X W e c fullShare j := by
  cases e <;> rfl

/-- What device `t`'s barrier cell pays: the places on a partner `t` will send to. -/
def barPay (t : Dev nD) (d : Fin 2) : sProp 𝕄 := land (ev t) (if d = 0 then xp t else yp t)

/-- One round on every cell: two signals on a barrier cell, one transfer on a DMA cell. -/
def Rd : Rounds.Schedule (GSem nD τ sig) (Fin 2) 𝕄 where
  duties g r := if r = 0 ∧ g.1.2 = .tc then (match g.2 with | .reg _ => Finset.univ | .dma _ => {0}) else ∅
  unitless _ := False
  amount g _ _ := match g.2 with | .reg _ => 1 | .dma s => amt (kindOf s)
  payload g _ d := match g.2 with | .reg _ => barPay g.1.1 d | .dma s => pay X W g.1.1 (kindOf s)
  amount_pos g _ _ _ := by
    cases g.2 with
    | reg _ => exact Nat.one_pos
    | dma s => exact amt_pos _

/-- A place to land in can be kept in an invariant. -/
instance lAny_storable (e : Bool) (s : Dev nD) (j : Fin 8) : BI.Storable (upEmb : UEmb _ 𝕄) (lAny (F := F) e s j) := by
  unfold lAny; cases e <;> infer_instance
/-- So can all the places to land in. -/
instance land_storable (e : Bool) (s : Dev nD) : BI.Storable (upEmb : UEmb _ 𝕄) (land (F := F) e s) := by
  unfold land; infer_instance
/-- So can what a barrier pays. -/
instance barPay_storable (t : Dev nD) (d : Fin 2) : BI.Storable (upEmb : UEmb _ 𝕄) (barPay (F := F) t d) := by
  unfold barPay; infer_instance
/-- So can a chunk landed. -/
instance lPt_storable (e : Bool) (c : Dev nD) (q : PosShare TreeShare) (j : Fin 8) : BI.Storable (upEmb : UEmb _ 𝕄) (lPt X W e c q j) := by
  unfold lPt; cases e <;> infer_instance
/-- So can a chunk sent. -/
instance sPt_storable (e : Bool) (c : Dev nD) (j : Fin 8) : BI.Storable (upEmb : UEmb _ 𝕄) (sPt X W e c j) := by
  unfold sPt; cases e <;> infer_instance
/-- So can what a semaphore pays. -/
instance pay_storable (c : Dev nD) : (k : SK) → BI.Storable (upEmb : UEmb _ 𝕄) (pay X W c k)
  | .inl _ => by show BI.Storable _ iprop(_ ∗ _); infer_instance
  | .inr (.inl _) => by show BI.Storable _ iprop(_ ∗ _); infer_instance
  | .inr (.inr (.inl _)) => by show BI.Storable _ iprop(_ ∗ _); infer_instance
  | .inr (.inr (.inr (.inl j))) => sPt_storable X W (ev c) c j
  | .inr (.inr (.inr (.inr (.inl j)))) => lPt_storable X W true c _ j
  | .inr (.inr (.inr (.inr (.inr (.inl j))))) => lPt_storable X W false c _ j
  | .inr (.inr (.inr (.inr (.inr (.inr j))))) => lPt_storable X W (ev c) c _ j
/-- So can every payment of the schedule. -/
instance Rd_storable (g : GSem nD τ sig) (r : ℕ) (d : Fin 2) : BI.Storable (upEmb : UEmb _ 𝕄) ((Rd X W).payload g r d) := by
  obtain ⟨t, s⟩ := g
  cases s with
  | reg s => exact barPay_storable t.1 d
  | dma s => exact pay_storable X W t.1 (kindOf s)

variable (c : Dev nD)

/-- A barrier has two payers. -/
theorem duties_bar : (Rd X W).duties (barCell c) 0 = Finset.univ := by dsimp only [Rd]; exact if_pos ⟨rfl, rfl⟩
/-- A DMA semaphore has one payer. -/
theorem duties_dma (k : SK) : (Rd X W).duties (dcell c k) 0 = {0} := by dsimp only [Rd]; exact if_pos ⟨rfl, rfl⟩
/-- There is only one round. -/
theorem duties_later (g : GSem nD τ sig) : ∀ r, 1 ≤ r → (Rd X W).duties g r = ∅ := fun r hr =>
  if_neg fun h => by omega
/-- A signal on a barrier is worth one. -/
theorem amount_bar (d : Fin 2) : (Rd X W).amount (barCell c) 0 d = 1 := rfl
/-- A transfer is worth its kind's amount. -/
theorem amount_dma (k : SK) (d : Fin 2) : (Rd X W).amount (dcell c k) 0 d = amt k := by
  show amt (kindOf (semOf k)) = _; rw [kindOf_semOf]
/-- What a signal on a barrier pays. -/
theorem payload_bar (d : Fin 2) : (Rd X W).payload (barCell c) 0 d = barPay c d := rfl
/-- What a transfer pays. -/
theorem payload_dma (k : SK) (d : Fin 2) : (Rd X W).payload (dcell c k) 0 d = pay X W c k := by
  show pay X W c (kindOf (semOf k)) = _; rw [kindOf_semOf]
/-- A barrier waits for two in all. -/
theorem expect_bar : (Rd X W).expect (barCell c) 0 = 2 := by
  unfold Schedule.expect Schedule.amountOf; rw [duties_bar]; rfl
/-- A DMA semaphore waits for one transfer in all. -/
theorem expect_dma (k : SK) : (Rd X W).expect (dcell c k) 0 = amt k := by
  unfold Schedule.expect Schedule.amountOf; rw [duties_dma, Finset.sum_singleton, amount_dma]
/-- All that a barrier pays: the landing places on both partners. -/
theorem rest_bar : bigSep ((Rd X W).duties (barCell c) 0 \ ∅) (fun d => (Rd X W).payload (barCell c) 0 d)
    = iprop(land (ev c) (xp c) ∗ land (ev c) (yp c)) := by
  rw [Finset.sdiff_empty, duties_bar, BI.bigSep_fin_two]; rfl
/-- All that a DMA semaphore pays. -/
theorem rest_dma (k : SK) : bigSep ((Rd X W).duties (dcell c k) 0 \ ∅) (fun d => (Rd X W).payload (dcell c k) 0 d) = pay X W c k := by
  rw [Finset.sdiff_empty, duties_dma, bigSep_singleton, payload_dma]

end

/-! ## What a device owes, and the levels -/

/-- The chunks from the `n`-th on, to be landed on device `t` by a device of parity `e`. -/
def remN (t : Dev nD) (e : Bool) (n : ℕ) : CellTallies nD τ sig Unit :=
  ∑ i ∈ Finset.univ.filter (fun i : Fin 8 => n ≤ i.val), tallyAt (dcell t (dk e i)) () NC

/-- After eight chunks nothing is owed. -/
theorem remN_end (t : Dev nD) (e : Bool) : remN t e 8 = 0 := by
  unfold remN
  rw [Finset.filter_false_of_mem (fun i _ => by have := i.isLt; omega), Finset.sum_empty]
/-- Chunk `j` is owed before the later ones. -/
theorem remN_step (t : Dev nD) (e : Bool) (j : Fin 8) :
    remN t e j.val = remN t e (j.val + 1) + tallyAt (dcell t (dk e j)) () NC := by
  unfold remN
  have h : Finset.univ.filter (fun i : Fin 8 => j.val ≤ i.val) = insert j (Finset.univ.filter fun i : Fin 8 => j.val + 1 ≤ i.val) := by
    ext i
    simp only [Finset.mem_filter, Finset.mem_univ, true_and, Finset.mem_insert, Fin.ext_iff]
    omega
  rw [h, Finset.sum_insert (by simp), add_comm]

/-- What device `c` owes at launch: a signal and eight chunks to each partner. -/
def O₀ (c : Dev nD) : CellTallies nD τ sig Unit :=
  remN (xp c) (ev c) 0 + remN (yp c) (ev c) 0 + tallyAt (barCell (yp c)) () 1 + tallyAt (barCell (xp c)) () 1

/-- The cells that a level is given of: the TensorCores'. -/
def L (g : GSem nD τ sig) : Finset Unit := if g.1.2 = .tc then {()} else ∅
/-- The level of each kind on a device of parity `e`. -/
def lvK (e : Bool) : SK → ℕ :=
  Sum.elim (fun _ => 0) (Sum.elim (fun _ => 0) (Sum.elim (fun _ => 0) (Sum.elim (fun _ => 0)
    (Sum.elim (fun _ => if e then 2 else 3) (Sum.elim (fun _ => if e then 3 else 2) fun _ => 0)))))
/-- Local cells before barriers, barriers before direct landings, direct landings before forwarded ones. -/
def lv (g : GSem nD τ sig) (_ : Unit) : ℕ := match g.2 with | .reg _ => 1 | .dma s => lvK (ev g.1.1) (kindOf s)

/-- Other threads' cells have no level. -/
theorem L_of_ne (g : GSem nD τ sig) (h : g.1.2 ≠ .tc) : L g = ∅ := if_neg h
/-- A TensorCore's cell has one level. -/
theorem L_tc (c : Dev nD) (sm : SemLoc sig) : L ((c : Thread nD τ), sm) = {()} := if_pos rfl
/-- The level of a DMA semaphore is its kind's. -/
theorem lv_dma (c : Dev nD) (k : SK) (u : Unit) : lv (dcell c k) u = lvK (ev c) k := by
  show lvK _ (kindOf (semOf k)) = _; rw [kindOf_semOf]
/-- The landing cell that a device relays from is at level two. -/
theorem lv_own (c : Dev nD) (j : Fin 8) (u : Unit) : lv (dcell c (dk (ev c) j)) u = 2 := by
  rw [lv_dma]; cases ev c <;> rfl
/-- So is the partner's landing cell, which the device pays directly. -/
theorem lv_x (c : Dev nD) (j : Fin 8) (u : Unit) : lv (dcell (xp c) (dk (ev c) j)) u = 2 := by
  rw [lv_dma, ev_xp]; cases ev c <;> rfl
/-- The neighbour's landing cell, which the device pays by a relay, is one level higher. -/
theorem lv_y (c : Dev nD) (j : Fin 8) (u : Unit) : lv (dcell (yp c) (dk (ev c) j)) u = 3 := by
  rw [lv_dma, ev_yp]; cases ev c <;> rfl

/-- What is owed is owed to landing cells. -/
theorem remN_pos {t : Dev nD} {e : Bool} {n : ℕ} {g : GSem nD τ sig} {u : Unit} (h : 0 < remN t e n g u) :
    ∃ j, g = dcell t (dk e j) := by
  unfold remN at h
  rw [Finset.sum_apply, Finsupp.finsetSum_apply] at h
  obtain ⟨i, -, hi⟩ := Finset.exists_ne_zero_of_sum_ne_zero (Nat.pos_iff_ne_zero.mp h)
  rw [tallyAt_apply] at hi
  by_cases hg : g = dcell t (dk e i) ∧ u = ()
  · exact ⟨i, hg.1⟩
  · exact absurd (if_neg hg) hi

/-- The levels, on every device. -/
def levs : sProp 𝕄 := levAts L lv
/-- The levels are known for good. -/
instance levs_persistent : BI.Persistent (levs (F := F)) := by unfold levs; infer_instance

/-- A wait at level `b` is in order if everything owed lies above `b`. -/
theorem mayWait (c : Dev nD) (sm : SemLoc sig) (O : CellTallies nD τ sig Unit) (b : ℕ) (hb : lv ((c : Thread nD τ), sm) () ≤ b)
    (hO : ∀ g u, 0 < O g u → g.1.2 = .tc ∧ b < lv g u) : levs (F := F) ⊢ MayWait (c : Thread nD τ) sm () O := by
  unfold levs
  exact MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-- What is owed to the neighbour lies above level two. -/
theorem above_y (c : Dev nD) (n : ℕ) (g : GSem nD τ sig) (u : Unit) (h : 0 < remN (yp c) (ev c) n g u) : g.1.2 = .tc ∧ 2 < lv g u := by
  obtain ⟨j, rfl⟩ := remN_pos h
  exact ⟨rfl, by rw [lv_y]; decide⟩
/-- What is owed to both partners lies above level one. -/
theorem above_xy (c : Dev nD) (n n' : ℕ) (g : GSem nD τ sig) (u : Unit) (h : 0 < (remN (xp c) (ev c) n + remN (yp c) (ev c) n') g u) :
    g.1.2 = .tc ∧ 1 < lv g u := by
  rw [Pi.add_apply, Finsupp.add_apply] at h
  rcases Nat.add_pos_iff_pos_or_pos.mp h with h | h
  · obtain ⟨j, rfl⟩ := remN_pos h
    exact ⟨rfl, by rw [lv_x]; decide⟩
  · exact ⟨(above_y c n' g u h).1, Nat.lt_of_succ_lt (above_y c n' g u h).2⟩

/-! ## The ghost state of a device -/

/-- The barriers, one of each device. -/
def barEmb : Dev nD ↪ GSem nD τ sig := ⟨fun c => barCell c, fun _ _ h => congrArg (fun g : GSem nD τ sig => g.1.1) h⟩
/-- The DMA semaphores, one of each device and kind. -/
def dmaEmb : Dev nD × SK ↪ GSem nD τ sig := ⟨fun ck => dcell ck.1 ck.2, fun a a' h =>
  Prod.ext (congrArg (fun g : GSem nD τ sig => g.1.1) h) (semOf_bij.1 (SemLoc.dma.inj (congrArg Prod.snd h)))⟩
abbrev barCells : Finset (GSem nD τ sig) := Finset.univ.map barEmb
abbrev dmaCells : Finset (GSem nD τ sig) := Finset.univ.map dmaEmb
/-- A barrier is among the cells. -/
theorem bar_mem (c : Dev nD) : barCell c ∈ (barCells ∪ dmaCells : Finset (GSem nD τ sig)) :=
  Finset.mem_union_left _ (Finset.mem_map_of_mem barEmb (Finset.mem_univ c))
/-- A DMA semaphore is among the cells. -/
theorem dma_mem (c : Dev nD) (k : SK) : dcell c k ∈ (barCells ∪ dmaCells : Finset (GSem nD τ sig)) :=
  Finset.mem_union_right _ (Finset.mem_map_of_mem dmaEmb (Finset.mem_univ (c, k)))

section

variable (X : Dev nD → Vec F S4x8x64x512 .f32) (W : Dev nD → Vec F S512x1024 .f32) (K : GSem nD τ sig → ℕ) (c : Dev nD)

/-- What every device may consult. -/
def pool : sProp 𝕄 :=
  iprop((bigSep (barCells ∪ dmaCells) fun g => cellInv ER (Rd X W) (K g) g) ∗ (bigSep barCells fun g => reached ER g 0) ∗ levs (F := F))
/-- With its own cells open. -/
def ctx : sProp 𝕄 := iprop(pool X W K ∗ bigSep Finset.univ fun k : SK => reached ER (dcell c k) 0)

/-- The shared facts are known for good. -/
instance pool_persistent : BI.Persistent (pool X W K) := by unfold pool; infer_instance
/-- So are the facts that a device works with. -/
instance ctx_persistent : BI.Persistent (ctx X W K c) := by unfold ctx; infer_instance

/-- A device knows the shared facts. -/
theorem ctx_pool : ctx X W K c ⊢ pool X W K := by unfold ctx; iintro ⟨#H, -⟩; iexact H
/-- Every cell's invariant is among the shared facts. -/
theorem pool_inv {g : GSem nD τ sig} (h : g ∈ (barCells ∪ dmaCells : Finset (GSem nD τ sig))) :
    pool X W K ⊢ cellInv ER (Rd X W) (K g) g := by
  unfold pool; exact sep_elim_left.trans (bigSep_elim (Φ := fun g => (cellInv ER (Rd X W) (K g) g : sProp 𝕄)) h)
/-- Every barrier is open. -/
theorem pool_bar (t : Dev nD) : pool X W K ⊢ (reached ER (barCell t) 0 : sProp 𝕄) := by
  unfold pool; exact sep_elim_right.trans (sep_elim_left.trans (bigSep_elim (Φ := fun g => (reached ER g 0 : sProp 𝕄)) (Finset.mem_map_of_mem barEmb (Finset.mem_univ t))))
/-- The levels are among the shared facts. -/
theorem pool_lev : pool X W K ⊢ levs (F := F) := by unfold pool; exact sep_elim_right.trans sep_elim_right
/-- A device knows every cell's invariant. -/
theorem ctx_inv {g : GSem nD τ sig} (h : g ∈ (barCells ∪ dmaCells : Finset (GSem nD τ sig))) :
    ctx X W K c ⊢ cellInv ER (Rd X W) (K g) g := (ctx_pool X W K c).trans (pool_inv X W K h)
/-- A device knows that every barrier is open. -/
theorem ctx_bar (t : Dev nD) : ctx X W K c ⊢ (reached ER (barCell t) 0 : sProp 𝕄) := by
  unfold ctx; exact sep_elim_left.trans (pool_bar X W K t)
/-- A device knows the levels. -/
theorem ctx_lev : ctx X W K c ⊢ levs (F := F) := (ctx_pool X W K c).trans (pool_lev X W K)
/-- A device knows that its own semaphores are open. -/
theorem ctx_reached (k : SK) : ctx X W K c ⊢ (reached ER (dcell c k) 0 : sProp 𝕄) := by
  unfold ctx; exact sep_elim_right.trans (bigSep_elim (Φ := fun k => (reached ER (dcell c k) 0 : sProp 𝕄)) (Finset.mem_univ k))

/-- Closing a cell after its round. -/
theorem close (κ : ℕ) (g : GSem nD τ sig) :
    iprop(cellInv ER (Rd X W) κ g ∗ atPos ER g (0 + 1) ∅ 0) ⊢ (|={Set.univ}=> semVal g 0 : sProp 𝕄) :=
  Rounds.cell_close ER (Rd X W) (Set.mem_univ κ) id (duties_later X W g)

end

/-- What a core owes, with whatever it has waited for. -/
def owesX (c : Dev nD) (O : CellTallies nD τ sig Unit) : sProp 𝕄 := iprop(∃ Wd, owes (c : Thread nD τ) O Wd)

abbrev 𝒱₀ : Variants := Variants.none

end Cert.KernelIdeal.Gen
-- ==== Proof.Steps.lean ====
/-
  The single steps of the kernel: what each load, store, copy, transfer and wait takes and gives back.
-/
module

public import proofs.«01_k».proof.Proof.Protocol

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c`'s core runs `p`. -/
abbrev WP {α : Type} (c : Dev nD) (p : KProg F α) (Q : α → sProp 𝕄) : sProp 𝕄 :=
  wp frame (wpE (defs₀ (F := F)) 𝒱₀ (c : Thread nD τ) none) Set.univ p Q

section

variable (c : Dev nD)

/-- A step known, then the rest. -/
theorem andThen {α β : Type} {p : KProg F α} {P : sProp 𝕄} {R : α → sProp 𝕄} (h : P ⊢ WP c p R) (k : α → KProg F β) (Q : β → sProp 𝕄) :
    P ⊢ iprop((∀ a, R a -∗ WP c (k a) Q) -∗ WP c (p >>= k) Q) := by
  unfold WP; rw [wp_bind]; exact h.trans (wp_wand _ _ _)
/-- A last step known. -/
theorem atLast {α : Type} {p : KProg F α} {P : sProp 𝕄} {R : α → sProp 𝕄} (h : P ⊢ WP c p R) (Q : α → sProp 𝕄) :
    P ⊢ iprop((∀ a, R a -∗ Q a) -∗ WP c p Q) := h.trans (wp_wand _ _ _)

/-- What is left aside stays. -/
theorem aside {α : Type} {p : KProg F α} {P : sProp 𝕄} {R : α → sProp 𝕄} (h : P ⊢ WP c p R) (S : sProp 𝕄) :
    iprop(P ∗ S) ⊢ WP c p (fun a => iprop(R a ∗ S)) := (sep_mono_left h).trans (wp_frame_r _ _ _)

/-- A sequence over an index: each step takes its own part and passes on the rest. -/
theorem seqN_spec : (n : ℕ) → (f : Fin n → KProg F PUnit) → (P Q : Fin n → sProp 𝕄) → (R : ℕ → sProp 𝕄)
    → (∀ j : Fin n, iprop(P j ∗ R j.val) ⊢ WP c (f j) fun _ => iprop(Q j ∗ R (j.val + 1)))
    → iprop(bigSep Finset.univ P ∗ R 0) ⊢ WP c (seqN n f) fun _ => iprop(bigSep Finset.univ Q ∗ R n)
  | 0, f, P, Q, R, h => by
    show _ ⊢ WP c (pure ⟨⟩ : KProg F PUnit) _
    unfold WP
    rw [wp_pure, Finset.univ_eq_empty, bigSep_empty, bigSep_empty]
    iintro H; imodintro; iexact H
  | n + 1, f, P, Q, R, h => by
    have hs (Φ : Fin (n + 1) → sProp 𝕄) : bigSep Finset.univ Φ = iprop(Φ 0 ∗ bigSep Finset.univ fun i : Fin n => Φ i.succ) := by
      rw [Fin.univ_succ, Finset.cons_eq_insert, BI.bigSep_insert (by simp), BI.bigSep_map]; rfl
    have h0 : iprop(P 0 ∗ R 0) ⊢ WP c (f 0) fun _ => iprop(Q 0 ∗ R 1) := h 0
    have ih : iprop((bigSep Finset.univ fun i : Fin n => P i.succ) ∗ R 1)
        ⊢ WP c (seqN n fun i => f i.succ) fun _ => iprop((bigSep Finset.univ fun i : Fin n => Q i.succ) ∗ R (n + 1)) := seqN_spec n (fun i => f i.succ) (fun i => P i.succ) (fun i => Q i.succ) (fun k => R (k + 1)) fun j => h j.succ
    rw [hs P, hs Q]
    show _ ⊢ WP c (f 0 >>= fun _ => seqN n fun i => f i.succ) _
    iintro ⟨⟨HP, HPs⟩, HR⟩
    iapply (andThen c h0 _ _) $$ [HP HR]
    · isplitl [HP]; · iexact HP
      iexact HR
    iintro %a ⟨HQ, HR⟩
    iapply (atLast c ih _) $$ [HPs HR]
    · isplitl [HPs]; · iexact HPs
      iexact HR
    iintro %a' ⟨HQs, HR⟩
    isplitl [HQ HQs]
    · isplitl [HQ]; · iexact HQ
      iexact HQs
    iexact HR

end

/-! ## The states of a DMA cell -/

/-- Nothing started on a cell of its own. -/
def idle (c : Dev nD) (k : SK) : sProp 𝕄 := iprop(atPos ER (dcell c k) 0 ∅ 0 ∗ dutyTok ER (dcell c k) 0 0)
/-- A cell that can be waited on. -/
def armed (c : Dev nD) (k : SK) : sProp 𝕄 := iprop(atPos ER (dcell c k) 0 ∅ 0 ∗ cred (tallyAt (dcell c k) () (amt k)))
/-- A cell waited on. -/
def spent (c : Dev nD) (k : SK) : sProp 𝕄 := atPos ER (dcell c k) (0 + 1) ∅ 0
/-- The right to land on a partner's cell. -/
def lander (t : Dev nD) (k : SK) : sProp 𝕄 := dutyTok ER (dcell t k) 0 0

section

variable (X : Dev nD → Vec F S4x8x64x512 .f32) (W : Dev nD → Vec F S512x1024 .f32) (K : GSem nD τ sig → ℕ) (c : Dev nD)

/-- Waiting on the own semaphore of kind `k` takes what it pays. -/
theorem waitK (k : SK) (O : CellTallies nD τ sig Unit) {sp sp' : Space} {s s' : Shape} {e e' : EltTy} {src : Memref sig .tc sp s e} {dst : Memref sig .tc sp' s' e'}
    {hs : src.view.WordExact} {hd : dst.view.WordExact} (hcr : dst.view.dmaCredit = amt k)
    (hO : levs (F := F) ⊢ MayWait (c : Thread nD τ) (.dma (semOf k)) () O) :
    iprop(ctx X W K c ∗ armed c k ∗ owesX c O)
      ⊢ WP c (Prog.lift (.waitDma2 (semOf k) src dst hs hd)) fun _ => iprop(pay X W c k ∗ spent c k ∗ owesX c O) := by
  unfold armed owesX spent
  iintro ⟨#Hctx, ⟨Hat, Hcr⟩, ⟨%Wd, HO⟩⟩
  iapply (Rounds.wp_wait_rest_token 𝒱₀ ER (Rd X W) (c : Thread nD τ) none (κ := K (dcell c k))
      (wpE_waitDma2_eq (src := src) (dst := dst) 𝒱₀ (c : Thread nD τ) none Set.univ) (Set.mem_univ _) () (O := O) (W := Wd) (R := 0) (m := 0) (T := ∅)
      ((Nat.zero_add _).trans (hcr.trans (expect_dma X W c k).symm))) $$ [Hcr HO Hat]
  · isplitr; · iapply (ctx_inv X W K c (dma_mem c k)); iexact Hctx
    isplitl [Hcr]; · rw [hcr]; iexact Hcr
    isplitl [HO]; · iexact HO
    isplitr; · iapply hO; iapply (ctx_lev X W K c); iexact Hctx
    iexact Hat
  iintro ⟨HO, Hat, -, Hpay⟩
  ihave Hp := (Entails.of_eq (rest_dma X W c k)) $$ Hpay
  rw [wp_ret]
  imodintro
  isplitl [Hp]; · iexact Hp
  isplitl [Hat]; · iexact Hat
  iexists _; iexact HO

/-- A copy on the own device hands its payment to the semaphore of kind `k`. -/
theorem copyK (k : SK) {sp sp' : Space} {s : Shape} {e : EltTy} {src : Memref sig .tc sp s e} {dst : Memref sig .tc sp' s e}
    {hs : src.view.WordExact} {hd : dst.view.WordExact} {ht : DmaTarget.Typed (nD := nD) (p := (.tc : Proc τ)) sp (.dma (semOf k)) (.here dst)}
    (hcr : dst.view.dmaCredit = amt k) {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ pay X W c k) :
    iprop(ctx X W K c ∗ idle c k ∗ (src.view.loc (c : Thread nD τ) ↦[src.view.set]{fullShare} fs) ∗ (dst.view.loc (c : Thread nD τ) ↦[dst.view.set]{fullShare} fd))
      ⊢ WP c (Prog.lift (.enqueueDma src (.here dst) (.dma (semOf k)) hs hd ht)) fun _ => armed c k := by
  unfold armed idle
  iintro ⟨#Hctx, ⟨Hat, Htok⟩, Hs, Hd⟩
  iapply (Rounds.wp_copy_pointsTo 𝒱₀ ER (Rd X W) (c : Thread nD τ) none (src := src) (dst := dst) (sem := .dma (semOf k)) (q := fullShare)
      (fs := fs) (fd := fd) (r := 0) (d := 0) (κ := K (dcell c k))
      (by rw [duties_dma]; exact Finset.mem_singleton_self _) () (amt k) hcr (amount_dma X W c k 0)
      (by rw [payload_dma]; exact hpay)) $$ [Hs Hd Htok]
  · isplitr; · iapply (ctx_inv X W K c (dma_mem c k)); iexact Hctx
    isplitl [Hs]; · iexact Hs
    isplitl [Hd]; · iexact Hd
    isplitl [Htok]; · iexact Htok
    iapply (ctx_reached X W K c k); iexact Hctx
  iintro Hcr
  rw [wp_ret]
  imodintro
  isplitl [Hat]; · iexact Hat
  iexact Hcr

/-- A remote copy to `t` hands one payment to the receiver's semaphore and one to the own. -/
theorem sendK (t : Dev nD) (k k' : SK) (O : CellTallies nD τ sig Unit) {s : Shape} {e : EltTy} {src dst : Memref sig .tc .vmem s e} {hsc : dst.view.ref.isScScratch = false}
    {hs : src.view.WordExact} {hd : dst.view.WordExact} {ht : DmaTarget.Typed (nD := nD) (p := (.tc : Proc τ)) .vmem (.dma (semOf k')) (.remote (Dev.tc t) dst (.dma (semOf k)) hsc)}
    (hcr : dst.view.dmaCredit = NC) (hk : amt k = NC) (hk' : amt k' = NC) {q : PosShare TreeShare}
    {fs : Buf (Elt F) (src.view.loc (c : Thread nD τ))} {fd : Buf (Elt F) (dst.view.loc (t : Thread nD τ))}
    (hp : (src.view.loc (c : Thread nD τ) ↦[src.view.set]{q} fs) ⊢ pay X W c k)
    (hp' : (dst.view.loc (t : Thread nD τ) ↦[dst.view.set]{fullShare} (dst.view.write (Elt F) fd (src.view.read (Elt F) fs) Finset.univ)) ⊢ pay X W t k') :
    iprop(ctx X W K c ∗ idle c k ∗ lander t k' ∗ reached ER (dcell t k') 0 ∗ (src.view.loc (c : Thread nD τ) ↦[src.view.set]{q} fs)
        ∗ (dst.view.loc (t : Thread nD τ) ↦[dst.view.set]{fullShare} fd) ∗ owesX c (O + tallyAt (dcell t k') () NC))
      ⊢ WP c (Prog.lift (.enqueueDma src (.remote (Dev.tc t) dst (.dma (semOf k)) hsc) (.dma (semOf k')) hs hd ht)) fun _ =>
        iprop(armed c k ∗ owesX c O) := by
  unfold armed idle owesX lander
  iintro ⟨#Hctx, ⟨Hat, Htok⟩, Htok', #Hr', Hs, Hd, ⟨%Wd, HO⟩⟩
  iapply (Rounds.wp_send_pointsTo 𝒱₀ ER (Rd X W) (c : Thread nD τ) none (c' := (t : Thread nD τ)) (src := src) (dst := dst)
      (sS := .dma (semOf k)) (sem := .dma (semOf k')) (q := q) (fs := fs) (κ₁ := K (dcell c k)) (κ₂ := K (dcell t k'))
      (r₁ := 0) (r₂ := 0) (d₁ := 0) (d₂ := 0) (fd := fd)
      (by rw [duties_dma]; exact Finset.mem_singleton_self _) (by rw [duties_dma]; exact Finset.mem_singleton_self _)
      () () NC hcr ((amount_dma X W c k 0).trans hk) ((amount_dma X W t k' 0).trans hk') O rfl (W := Wd)
      (by rw [payload_dma]; exact hp) (by rw [payload_dma]; exact hp')) $$ [Hs Hd HO Htok Htok']
  · isplitr; · iapply (ctx_inv X W K c (dma_mem c k)); iexact Hctx
    isplitr; · iapply (ctx_inv X W K c (dma_mem t k')); iexact Hctx
    isplitl [Hs]; · iexact Hs
    isplitl [Hd]; · iexact Hd
    isplitl [HO]; · iexact HO
    isplitl [Htok]; · iexact Htok
    isplitr; · iapply (ctx_reached X W K c k); iexact Hctx
    isplitl [Htok']; · iexact Htok'
    iexact Hr'
  iintro ⟨Hcr, HO⟩
  rw [wp_ret]
  imodintro
  isplitl [Hat Hcr]
  · isplitl [Hat]; · iexact Hat
    rw [hk]; iexact Hcr
  iexists _; iexact HO

end

end Cert.KernelIdeal.Gen
-- ==== Proof.Frags.lean ====
/-
  The fragments of the kernel's body: what each takes and gives back.
-/
module

public import proofs.«01_k».proof.Proof.Steps

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of accesses -/

/-- The own columns of a batch lie in the batch. -/
theorem rOwn_sub (b : Fin 4) (c : Dev nD) : (rOwn b c).set ⊆ (rX b).set := by
  intro x hx
  have h0 : b.val ≤ (x 0).val ∧ (x 0).val < b.val + 1 := (Rect.mem_set_unit.mp hx) 0
  exact (mem_rX b x).mpr (Fin.ext (by omega))
/-- The whole weights as a part of themselves. -/
theorem rAll_emb (x : S512x1024.Idx) : rAll.emb x = x := by
  funext a
  refine Fin.ext ?_
  match a with
  | 0 => show 0 + 1 * (x 0).val = (x 0).val; omega
  | 1 => show 0 + 1 * (x 1).val = (x 1).val; omega
/-- Reading the whole weights gives their contents. -/
theorem read_all (f : Vec F S512x1024 .f32) : (vW.access rAll).read (Elt F) f = f := by
  funext x
  show f (rAll.emb x) = f x
  rw [rAll_emb]
/-- Storing the whole weights leaves what was stored. -/
theorem write_all (f v : Vec F S512x1024 .bf16) : (sW.access rAll).write (Elt F) f v Finset.univ = v := by
  funext i
  have h := View.write_emb_of_mem (v := sW.access rAll) (Val := Elt F) f v (Finset.mem_univ i)
  rw [show (sW.access rAll).emb i = i from rAll_emb i] at h
  exact h

/-- The elements that a load of the partner's columns reads. -/
theorem acc_P (b : Fin 4) (c : Dev nD) : (vX.access (rP b c)).set = (rP b c).set := View.set_slice_whole cc0_scratch1 (rP b c)
/-- The elements that a load of the own columns reads. -/
theorem acc_Own (b : Fin 4) (c : Dev nD) : (vX.access (rOwn b c)).set = (rOwn b c).set := View.set_slice_whole cc0_scratch1 (rOwn b c)
/-- The elements of a batch of the rounded activations. -/
theorem acc_S (b : Fin 4) : (sO.access (rS b)).set = (rS b).set := View.set_slice_whole cc0_scratch6 (rS b)
/-- The elements of a batch of the accumulator. -/
theorem acc_A (b : Fin 4) : (vA.access (rR b)).set = (rR b).set := View.set_slice_whole cc0_scratch2 (rR b)
/-- The elements of a batch of the rounded result. -/
theorem acc_B (b : Fin 4) : (vB.access (rR b)).set = (rR b).set := View.set_slice_whole cc0_scratch3 (rR b)
/-- The elements of a tile of the activations landed. -/
theorem acc_TO (b i : Fin 4) : (lO.access (rTO b i)).set = (rTO b i).set := View.set_slice_whole cc0_scratch7 (rTO b i)
/-- The elements of a tile of the weights landed. -/
theorem acc_TW (i : Fin 4) : (lW.access (rTW i)).set = (rTW i).set := View.set_slice_whole cc0_scratch5 (rTW i)

/-! ## The credits of the cells -/

/-- The staged weights bring the credit their semaphore waits for. -/
theorem cr_W : vW.view.dmaCredit = amt kW := creditOf_eq vW
/-- A staged batch brings the credit its semaphore waits for. -/
theorem cr_In (b : Fin 4) : (vXb b).view.dmaCredit = amt (kIn b) := creditOf_eq (vXb b)
/-- A batch of the result brings the credit its semaphore waits for. -/
theorem cr_Out (b : Fin 4) : (mRb b).view.dmaCredit = amt (kOut b) := creditOf_eq (mRb b)
/-- A chunk of weights lands with a chunk's credit. -/
theorem cr_lW (j : Fin 8) : (lWj j).view.dmaCredit = NC := (credit_lW j).trans (creditOf_eq (lWj 0))
/-- A chunk of weights leaves with a chunk's credit. -/
theorem cr_sW (j : Fin 8) : (sWj j).view.dmaCredit = NC := (credit_sW j).trans (creditOf_eq (lWj 0))
/-- A chunk of activations lands with a chunk's credit. -/
theorem cr_lO (j : Fin 8) : (lOj j).view.dmaCredit = NC := (credit_lO j).trans (credit_WO.symm.trans (creditOf_eq (lWj 0)))
/-- A chunk of activations leaves with a chunk's credit. -/
theorem cr_sO (j : Fin 8) : (sOj j).view.dmaCredit = NC := (credit_sO j).trans (credit_WO.symm.trans (creditOf_eq (lWj 0)))

section

variable (X : Dev nD → Vec F S4x8x64x512 .f32) (W : Dev nD → Vec F S512x1024 .f32) (K : GSem nD τ sig → ℕ) (c : Dev nD)

/-- The weights' staging pays both buffers back, the weights copied. -/
theorem pay_W : pay X W c kW = iprop(pt cc0_scratch0 c Finset.univ fullShare (W c) ∗ pt main_arg1 c Finset.univ fullShare (W c)) := rfl
/-- A batch's staging pays both places back, the batch copied. -/
theorem pay_In (b : Fin 4) : pay X W c (kIn b)
    = iprop(pt cc0_scratch1 c (rX b).set fullShare (X c) ∗ pt main_v1 c (rX b).set fullShare (X c)) := rfl
/-- A batch of the result is paid back with its source. -/
theorem pay_Out (b : Fin 4) : pay X W c (kOut b)
    = iprop(pt main_v2 c (rR b).set fullShare (gR X W c) ∗ pt cc0_scratch3 c (rR b).set fullShare (gR X W c)) := rfl
/-- A direct send pays its source back. -/
theorem pay_Xs (j : Fin 8) : pay X W c (kXs j) = sPt X W (ev c) c j := rfl
/-- A relay pays back the half share of its source. -/
theorem pay_Fw (j : Fin 8) : pay X W c (kFw j) = lPt X W (ev c) c fullShare.left j := rfl

/-! ## The staging copies -/

/-- Starting the staging of a batch. -/
theorem startX_spec (b : Fin 4) :
    iprop(ctx X W K c ∗ idle c (kIn b) ∗ pt main_v1 c (rX b).set fullShare (X c) ∗ ptAny cc0_scratch1 c (rX b).set)
      ⊢ WP c (startX b) fun _ => armed c (kIn b) := by
  unfold startX
  iintro ⟨Hctx, Hi, Hs, ⟨%f, Hd⟩⟩
  iapply (copyK X W K c (kIn b) (src := mXb b) (dst := vXb b) (cr_In b) (fs := X c) (fd := f) (by
    rw [pointsTo_congr (landX b f (X c)), set_mXb, set_vXb]; exact BI.Entails.refl _)) $$ [Hctx Hi Hs Hd]
  isplitl [Hctx]; · iexact Hctx
  isplitl [Hi]; · iexact Hi
  rw [set_mXb, set_vXb]
  isplitl [Hs]; · iexact Hs
  iexact Hd

/-- Starting the staging of the weights. -/
theorem startW_spec :
    iprop(ctx X W K c ∗ idle c kW ∗ pt main_arg1 c Finset.univ fullShare (W c) ∗ ptAny cc0_scratch0 c Finset.univ)
      ⊢ WP c startW fun _ => armed c kW := by
  unfold startW
  iintro ⟨Hctx, Hi, Hs, ⟨%f, Hd⟩⟩
  iapply (copyK X W K c kW (src := mW) (dst := vW) cr_W (fs := W c) (fd := f) (by
    rw [landWW f (W c), show vW.view.set = Finset.univ from View.set_whole _, show mW.view.set = Finset.univ from View.set_whole _]
    exact BI.Entails.refl _)) $$ [Hctx Hi Hs Hd]
  isplitl [Hctx]; · iexact Hctx
  isplitl [Hi]; · iexact Hi
  rw [show vW.view.set = Finset.univ from View.set_whole _, show mW.view.set = Finset.univ from View.set_whole _]
  isplitl [Hs]; · iexact Hs
  iexact Hd

/-! ## The handshake -/

/-- What the barrier cell of `c` is before the handshake. -/
def shaking : sProp 𝕄 :=
  iprop(atPos ER (barCell c) 0 ∅ 0 ∗ cred (tallyAt (barCell c) () 2) ∗ dutyTok ER (barCell (xp c)) 0 0 ∗ dutyTok ER (barCell (yp c)) 0 1)

/-- The barrier: the own landing places are handed to both partners, and theirs are received. -/
theorem shake_spec :
    iprop(ctx X W K c ∗ shaking c ∗ land (ev c) c ∗ land (!ev c) c ∗ owesX c (O₀ c))
      ⊢ WP c (shake c) fun _ => iprop(atPos ER (barCell c) (0 + 1) ∅ 0 ∗ land (ev c) (xp c) ∗ land (ev c) (yp c)
          ∗ owesX c (remN (xp c) (ev c) 0 + remN (yp c) (ev c) 0)) := by
  unfold shake semSignalWord semWaitWord shaking owesX
  rw [dev1_eq, dev2_eq]
  iintro ⟨#Hctx, ⟨Hat, Hcr, Hx, Hy⟩, Hl, Hl', ⟨%Wd, HO⟩⟩
  iapply (Rounds.wp_signal 𝒱₀ ER (Rd X W) (c : Thread nD τ) none (dst := (xp c : Thread nD τ)) (sem := barSem) (r := 0) (d := 0)
      (κ := K (barCell (xp c))) (by rw [duties_bar]; exact Finset.mem_univ _) (amount_bar X W (xp c) 0) ()
      (remN (xp c) (ev c) 0 + remN (yp c) (ev c) 0 + tallyAt (barCell (yp c)) () 1) rfl) $$ [HO Hx Hl]
  · isplitr; · iapply (ctx_inv X W K c (bar_mem (xp c))); iexact Hctx
    isplitl [HO]; · iexact HO
    isplitl [Hx]; · iexact Hx
    isplitl [Hl]
    · rw [payload_bar]; unfold barPay; rw [if_pos rfl, ev_xp, xp_xp]; iexact Hl
    iapply (ctx_bar X W K c (xp c)); iexact Hctx
  iintro HO
  iapply (Rounds.wp_signal 𝒱₀ ER (Rd X W) (c : Thread nD τ) none (dst := (yp c : Thread nD τ)) (sem := barSem) (r := 0) (d := 1)
      (κ := K (barCell (yp c))) (by rw [duties_bar]; exact Finset.mem_univ _) (amount_bar X W (yp c) 1) ()
      (remN (xp c) (ev c) 0 + remN (yp c) (ev c) 0) rfl) $$ [HO Hy Hl']
  · isplitr; · iapply (ctx_inv X W K c (bar_mem (yp c))); iexact Hctx
    isplitl [HO]; · iexact HO
    isplitl [Hy]; · iexact Hy
    isplitl [Hl']
    · rw [payload_bar]; unfold barPay; rw [if_neg (by decide), ev_yp, yp_yp]; iexact Hl'
    iapply (ctx_bar X W K c (yp c)); iexact Hctx
  iintro HO
  iapply (Rounds.wp_wait_rest_token 𝒱₀ ER (Rd X W) (c : Thread nD τ) none (κ := K (barCell c))
      (wpE_semWait_eq 𝒱₀ (c : Thread nD τ) none Set.univ) (Set.mem_univ _) () (O := remN (xp c) (ev c) 0 + remN (yp c) (ev c) 0) (W := Wd) (R := 0) (m := 0) (T := ∅)
      ((Nat.zero_add 2).trans (expect_bar X W c).symm)) $$ [Hcr HO Hat]
  · isplitr; · iapply (ctx_inv X W K c (bar_mem c)); iexact Hctx
    isplitl [Hcr]; · iexact Hcr
    isplitl [HO]; · iexact HO
    isplitr
    · iapply (mayWait c (.reg barSem) _ 1 (le_refl 1) (above_xy c 0 0)); iapply (ctx_lev X W K c); iexact Hctx
    iexact Hat
  iintro ⟨HO, Hat, -, Hpay⟩
  ihave Hp := (Entails.of_eq (rest_bar X W c)) $$ Hpay
  icases Hp with ⟨Hlx, Hly⟩
  rw [wp_ret]
  imodintro
  isplitl [Hat]; · iexact Hat
  isplitl [Hlx]; · iexact Hlx
  isplitl [Hly]; · iexact Hly
  iexists _; iexact HO

/-! ## Rounding the operands -/

/-- A wait for a local cell is always in order before the sends. -/
theorem local_ok (k : SK) (hk : lvK (ev c) k = 0) (n n' : ℕ) :
    levs (F := F) ⊢ MayWait (c : Thread nD τ) (.dma (semOf k)) () (remN (xp c) (ev c) n + remN (yp c) (ev c) n') :=
  mayWait c _ _ 1 (by rw [lv_dma, hk]; exact Nat.zero_le _) (above_xy c n n')
/-- Who owes nothing may wait on anything. -/
theorem free_ok (sm : SemLoc sig) : levs (F := F) ⊢ MayWait (c : Thread nD τ) sm () (0 : CellTallies nD τ sig Unit) := by
  rw [MayWait_zero]; iintro -; iempintro

/-- The weights waited for, rounded and stored. -/
theorem castW_spec (n n' : ℕ) :
    iprop(ctx X W K c ∗ armed c kW ∗ ptAny cc0_scratch4 c Finset.univ ∗ owesX c (remN (xp c) (ev c) n + remN (yp c) (ev c) n'))
      ⊢ WP c castW fun w => iprop(⌜w = k0_pay58 (W c)⌝ ∗ pay X W c kW ∗ pt cc0_scratch4 c Finset.univ fullShare (gSW W c) ∗ spent c kW
          ∗ owesX c (remN (xp c) (ev c) n + remN (yp c) (ev c) n')) := by
  unfold castW
  iintro ⟨Hctx, Ha, ⟨%f, Hs⟩, HO⟩
  iapply (andThen c (waitK X W K c kW _ cr_W (local_ok c kW rfl n n')) _ _) $$ [Hctx Ha HO]
  · isplitl [Hctx]; · iexact Hctx
    isplitl [Ha]; · iexact Ha
    iexact HO
  iintro %a ⟨Hp, Hsp, HO⟩
  ihave Hp := (Entails.of_eq (pay_W X W c)) $$ Hp
  icases Hp with ⟨Hw, Hm⟩
  iapply (wp_load_rect 𝒱₀ (c : Thread nD τ) none Set.univ (m := vW) (r := rAll) (Finset.subset_univ _)) $$ [Hw]
  · iexact Hw
  iintro Hw
  rw [read_all]
  iapply (wp_load_rect 𝒱₀ (c : Thread nD τ) none Set.univ (m := sW) (r := rAll) (Finset.subset_univ _)) $$ [Hs]
  · iexact Hs
  iintro Hs
  iapply (wp_store 𝒱₀ (c : Thread nD τ) none Set.univ (m := sW) (r := rAll) (Mk := Finset.univ) (Finset.subset_univ _)) $$ [Hs]
  · iexact Hs
  iintro Hs
  rw [write_all, show ((Prog.ret PUnit.unit).bind fun _ => (Pure.pure (k0_pay58 (W c)) : KProg F _)) = Prog.ret (k0_pay58 (W c)) from rfl, wp_ret, pay_W]
  imodintro
  isplitr; · ipureintro; rfl
  isplitl [Hw Hm]
  · isplitl [Hw]; · iexact Hw
    iexact Hm
  isplitl [Hs]; · iexact Hs
  isplitl [Hsp]; · iexact Hsp
  iexact HO

/-- A batch of the rounded activations after its store. -/
theorem put_gSO (b : Fin 4) (f : Vec F S4x512x256 .bf16) :
    ((sO.access (rS b)).loc (c : Thread nD τ) ↦[(rS b).set]{fullShare} ((sO.access (rS b)).write (Elt F) f (k0_pay60 (forX X c b)) Finset.univ) : sProp 𝕄)
      = pt cc0_scratch6 c (rS b).set fullShare (gSO X c) :=
  pointsTo_congr fun i hi => write_gSO X c b f i (by rw [acc_S]; exact hi)
/-- A batch of the accumulator after its store. -/
theorem put_gA (b : Fin 4) (t : ℕ) (f : Vec F S4x256x1024 .f32) :
    ((vA.access (rR b)).loc (c : Thread nD τ) ↦[(rR b).set]{fullShare} ((vA.access (rR b)).write (Elt F) f (acc X W c b t) Finset.univ) : sProp 𝕄)
      = pt cc0_scratch2 c (rR b).set fullShare (gA X W c t) :=
  pointsTo_congr fun i hi => write_gA X W c b t f i (by rw [acc_A]; exact hi)
/-- A batch of the rounded result after its store. -/
theorem put_gR (b : Fin 4) (f : Vec F S4x256x1024 .bf16) :
    ((vB.access (rR b)).loc (c : Thread nD τ) ↦[(rR b).set]{fullShare} ((vB.access (rR b)).write (Elt F) f (roundAcc (acc X W c b 4)) Finset.univ) : sProp 𝕄)
      = pt cc0_scratch3 c (rR b).set fullShare (gR X W c) :=
  pointsTo_congr fun i hi => write_gR X W c b f i (by rw [acc_B]; exact hi)

/-- A batch waited for, the partner's columns rounded and stored. -/
theorem castX_spec (n n' : ℕ) (b : Fin 4) :
    iprop(ctx X W K c ∗ armed c (kIn b) ∗ ptAny cc0_scratch6 c (rS b).set ∗ owesX c (remN (xp c) (ev c) n + remN (yp c) (ev c) n'))
      ⊢ WP c (castX c b) fun _ => iprop(pay X W c (kIn b) ∗ pt cc0_scratch6 c (rS b).set fullShare (gSO X c) ∗ spent c (kIn b)
          ∗ owesX c (remN (xp c) (ev c) n + remN (yp c) (ev c) n')) := by
  unfold castX
  iintro ⟨Hctx, Ha, ⟨%f, Hs⟩, HO⟩
  iapply (andThen c (waitK X W K c (kIn b) _ (cr_In b) (local_ok c (kIn b) rfl n n')) _ _) $$ [Hctx Ha HO]
  · isplitl [Hctx]; · iexact Hctx
    isplitl [Ha]; · iexact Ha
    iexact HO
  iintro %a ⟨Hp, Hsp, HO⟩
  ihave Hp := (Entails.of_eq (pay_In X W c b)) $$ Hp
  icases Hp with ⟨Hw, Hm⟩
  iapply (wp_load_rect 𝒱₀ (c : Thread nD τ) none Set.univ (m := vX) (r := rP b c) (S := (rX b).set)
    ((acc_P b c).subset.trans (rP_sub b c))) $$ [Hw]
  · iexact Hw
  iintro Hw
  rw [read_forX]
  iapply (wp_load_rect 𝒱₀ (c : Thread nD τ) none Set.univ (m := sO) (r := rS b) (S := (rS b).set)
    (acc_S b).subset) $$ [Hs]
  · iexact Hs
  iintro Hs
  iapply (wp_store 𝒱₀ (c : Thread nD τ) none Set.univ (m := sO) (r := rS b) (Mk := Finset.univ) (S := (rS b).set)
    (acc_S b).subset) $$ [Hs]
  · iexact Hs
  iintro Hs
  ihave Hs := (Entails.of_eq (put_gSO X c b f)) $$ Hs
  rw [wp_ret, pay_In]
  imodintro
  isplitl [Hw Hm]
  · isplitl [Hw]; · iexact Hw
    iexact Hm
  isplitl [Hs]; · iexact Hs
  isplitl [Hsp]; · iexact Hsp
  iexact HO

/-! ## The transfers -/

/-- An even device sends a chunk of weights. -/
theorem sendW_spec (h : ev c = true) (R : CellTallies nD τ sig Unit) (j : Fin 8) :
    iprop(ctx X W K c ∗ idle c (kXs j) ∗ lander (xp c) (dk true j) ∗ sPt X W true c j ∗ (lAny true (xp c) j ∗ reached ER (dcell (xp c) (dk true j)) 0)
        ∗ owesX c (remN (xp c) true j.val + R))
      ⊢ WP c (sendW (xp c) j) fun _ => iprop(armed c (kXs j) ∗ owesX c (remN (xp c) true (j.val + 1) + R)) := by
  unfold sendW lAny sPt
  iintro ⟨Hctx, Hi, Hl, Hs, ⟨⟨%f, Hd⟩, Hr⟩, HO⟩
  rw [remN_step, add_right_comm]
  iapply (sendK X W K c (xp c) (kXs j) (kWo j) (remN (xp c) true (j.val + 1) + R) (src := sWj j) (dst := lWj j) (cr_lW j) rfl rfl
    (fs := gSW W c) (fd := f) (by rw [pay_Xs, h, set_sWj]; exact BI.Entails.refl _) (by
      rw [pointsTo_congr (landSW j f (gSW W c)), set_lWj, ← gLW_xp W c h]; exact BI.Entails.refl _)) $$ [Hctx Hi Hl Hs Hd Hr HO]
  isplitl [Hctx]; · iexact Hctx
  isplitl [Hi]; · iexact Hi
  isplitl [Hl]; · iexact Hl
  isplitl [Hr]; · iexact Hr
  rw [set_sWj, set_lWj]
  isplitl [Hs]; · iexact Hs
  isplitl [Hd]; · iexact Hd
  iexact HO

/-- An odd device sends a chunk of activations. -/
theorem sendO_spec (h : ev c = false) (R : CellTallies nD τ sig Unit) (j : Fin 8) :
    iprop(ctx X W K c ∗ idle c (kXs j) ∗ lander (xp c) (dk false j) ∗ sPt X W false c j ∗ (lAny false (xp c) j ∗ reached ER (dcell (xp c) (dk false j)) 0)
        ∗ owesX c (remN (xp c) false j.val + R))
      ⊢ WP c (sendO (xp c) j) fun _ => iprop(armed c (kXs j) ∗ owesX c (remN (xp c) false (j.val + 1) + R)) := by
  unfold sendO lAny sPt
  iintro ⟨Hctx, Hi, Hl, Hs, ⟨⟨%f, Hd⟩, Hr⟩, HO⟩
  rw [remN_step, add_right_comm]
  iapply (sendK X W K c (xp c) (kXs j) (kO j) (remN (xp c) false (j.val + 1) + R) (src := sOj j) (dst := lOj j) (cr_lO j) rfl rfl
    (fs := gSO X c) (fd := f) (by rw [pay_Xs, h, set_sOj]; exact BI.Entails.refl _) (by
      rw [pointsTo_congr (landSO j f (gSO X c)), set_lOj, ← gLO_xp X c h]; exact BI.Entails.refl _)) $$ [Hctx Hi Hl Hs Hd Hr HO]
  isplitl [Hctx]; · iexact Hctx
  isplitl [Hi]; · iexact Hi
  isplitl [Hl]; · iexact Hl
  isplitl [Hr]; · iexact Hr
  rw [set_sOj, set_lOj]
  isplitl [Hs]; · iexact Hs
  isplitl [Hd]; · iexact Hd
  iexact HO

/-- An even device waits for a chunk of weights and relays it, keeping half of the right to read it. -/
theorem relayW_spec (h : ev c = true) (j : Fin 8) :
    iprop(ctx X W K c ∗ armed c (dk true j) ∗ idle c (kFw j) ∗ lander (yp c) (dk true j) ∗ (lAny true (yp c) j ∗ reached ER (dcell (yp c) (dk true j)) 0)
        ∗ owesX c (remN (yp c) true j.val))
      ⊢ WP c (relayW (yp c) j) fun _ => iprop((spent c (dk true j) ∗ armed c (kFw j) ∗ lPt X W true c fullShare.right j)
          ∗ owesX c (remN (yp c) true (j.val + 1))) := by
  have hw := mayWait (F := F) c (.dma (semOf (dk (ev c) j))) _ 2 (le_of_eq (lv_own c j ())) (above_y c j.val)
  rw [h] at hw
  unfold relayW lAny
  iintro ⟨#Hctx, Ha, Hi, Hl, ⟨⟨%f, Hd⟩, Hr⟩, HO⟩
  iapply (andThen c (waitK X W K c (kWo j) _ (cr_lW j) hw) _ _) $$ [Ha HO]
  · isplitr; · iexact Hctx
    isplitl [Ha]; · iexact Ha
    iexact HO
  iintro %a ⟨Hp, Hsp, HO⟩
  ihave Hp := (Entails.of_eq (show pay X W c (kWo j) = lPt X W true c fullShare j from rfl)) $$ Hp
  unfold lPt
  ihave Hp := ((pointsTo_share (PosShare.mem_left_op_right fullShare)).1) $$ Hp
  icases Hp with ⟨Hp, Hq⟩
  rw [remN_step]
  iapply (atLast c (sendK X W K c (yp c) (kFw j) (kWo j) (remN (yp c) true (j.val + 1)) (src := lWj j) (dst := lWj j) (cr_lW j) rfl rfl
    (q := fullShare.left) (fs := gLW W c) (fd := f) (by rw [pay_Fw, h, set_lWj]; exact BI.Entails.refl _) (by
      rw [pointsTo_congr (landLW j f (gLW W c)), set_lWj, ← gLW_yp W c h]; exact BI.Entails.refl _)) _) $$ [Hi Hl Hp Hd Hr HO]
  · isplitr; · iexact Hctx
    isplitl [Hi]; · iexact Hi
    isplitl [Hl]; · iexact Hl
    isplitl [Hr]; · iexact Hr
    rw [set_lWj]
    isplitl [Hp]; · iexact Hp
    isplitl [Hd]; · iexact Hd
    iexact HO
  iintro %a' ⟨Ha, HO⟩
  isplitr [HO]
  · isplitl [Hsp]; · iexact Hsp
    isplitl [Ha]; · iexact Ha
    iexact Hq
  iexact HO

/-- An odd device waits for a chunk of activations and relays it, keeping half of the right to read it. -/
theorem relayO_spec (h : ev c = false) (j : Fin 8) :
    iprop(ctx X W K c ∗ armed c (dk false j) ∗ idle c (kFw j) ∗ lander (yp c) (dk false j) ∗ (lAny false (yp c) j ∗ reached ER (dcell (yp c) (dk false j)) 0)
        ∗ owesX c (remN (yp c) false j.val))
      ⊢ WP c (relayO (yp c) j) fun _ => iprop((spent c (dk false j) ∗ armed c (kFw j) ∗ lPt X W false c fullShare.right j)
          ∗ owesX c (remN (yp c) false (j.val + 1))) := by
  have hw := mayWait (F := F) c (.dma (semOf (dk (ev c) j))) _ 2 (le_of_eq (lv_own c j ())) (above_y c j.val)
  rw [h] at hw
  unfold relayO lAny
  iintro ⟨#Hctx, Ha, Hi, Hl, ⟨⟨%f, Hd⟩, Hr⟩, HO⟩
  iapply (andThen c (waitK X W K c (kO j) _ (cr_lO j) hw) _ _) $$ [Ha HO]
  · isplitr; · iexact Hctx
    isplitl [Ha]; · iexact Ha
    iexact HO
  iintro %a ⟨Hp, Hsp, HO⟩
  ihave Hp := (Entails.of_eq (show pay X W c (kO j) = lPt X W false c fullShare j from rfl)) $$ Hp
  unfold lPt
  ihave Hp := ((pointsTo_share (PosShare.mem_left_op_right fullShare)).1) $$ Hp
  icases Hp with ⟨Hp, Hq⟩
  rw [remN_step]
  iapply (atLast c (sendK X W K c (yp c) (kFw j) (kO j) (remN (yp c) false (j.val + 1)) (src := lOj j) (dst := lOj j) (cr_lO j) rfl rfl
    (q := fullShare.left) (fs := gLO X c) (fd := f) (by rw [pay_Fw, h, set_lOj]; exact BI.Entails.refl _) (by
      rw [pointsTo_congr (landLO j f (gLO X c)), set_lOj, ← gLO_yp X c h]; exact BI.Entails.refl _)) _) $$ [Hi Hl Hp Hd Hr HO]
  · isplitr; · iexact Hctx
    isplitl [Hi]; · iexact Hi
    isplitl [Hl]; · iexact Hl
    isplitl [Hr]; · iexact Hr
    rw [set_lOj]
    isplitl [Hp]; · iexact Hp
    isplitl [Hd]; · iexact Hd
    iexact HO
  iintro %a' ⟨Ha, HO⟩
  isplitr [HO]
  · isplitl [Hsp]; · iexact Hsp
    isplitl [Ha]; · iexact Ha
    iexact Hq
  iexact HO

/-! ## The own products and the tiles -/

/-- Loading the own columns of a batch. -/
theorem loadOwn_spec (b : Fin 4) :
    pt cc0_scratch1 c (rX b).set fullShare (X c)
      ⊢ WP c (loadOwn c b) fun x => iprop(⌜x = ownX X c b⌝ ∗ pt cc0_scratch1 c (rX b).set fullShare (X c)) := by
  unfold loadOwn
  iintro Hw
  iapply (wp_load_rect 𝒱₀ (c : Thread nD τ) none Set.univ (m := vX) (r := rOwn b c) (S := (rX b).set)
    ((acc_Own b c).subset.trans (rOwn_sub b c))) $$ [Hw]
  · iexact Hw
  iintro Hw
  rw [wp_ret, read_ownX]
  imodintro
  isplitr; · ipureintro; rfl
  iexact Hw

/-- Storing a batch of the accumulator. -/
theorem putAcc_spec (b : Fin 4) (t : ℕ) (f : Vec F S4x256x1024 .f32) :
    pt cc0_scratch2 c (rR b).set fullShare f
      ⊢ WP c (putAcc b (acc X W c b t)) fun _ => pt cc0_scratch2 c (rR b).set fullShare (gA X W c t) := by
  unfold putAcc
  iintro Hs
  iapply (wp_load_rect 𝒱₀ (c : Thread nD τ) none Set.univ (m := vA) (r := rR b) (S := (rR b).set) (acc_A b).subset) $$ [Hs]
  · iexact Hs
  iintro Hs
  iapply (wp_store 𝒱₀ (c : Thread nD τ) none Set.univ (m := vA) (r := rR b) (Mk := Finset.univ) (S := (rR b).set) (acc_A b).subset) $$ [Hs]
  · iexact Hs
  iintro Hs
  ihave Hs := (Entails.of_eq (put_gA X W c b t f)) $$ Hs
  rw [wp_ret]
  imodintro
  iexact Hs

/-- One tile's product added to a batch of the accumulator. -/
theorem tile_spec (b i : Fin 4) {SO : Finset S4x512x256.Idx} {SW : Finset S512x1024.Idx} (hSO : (rTO b i).set ⊆ SO) (hSW : (rTW i).set ⊆ SW)
    (qo qw : PosShare TreeShare) :
    iprop(pt cc0_scratch2 c (rR b).set fullShare (gA X W c i.val) ∗ pt cc0_scratch7 c SO qo (gLO X c) ∗ pt cc0_scratch5 c SW qw (gLW W c))
      ⊢ WP c (tile b i) fun _ =>
        iprop(pt cc0_scratch2 c (rR b).set fullShare (gA X W c (i.val + 1)) ∗ pt cc0_scratch7 c SO qo (gLO X c) ∗ pt cc0_scratch5 c SW qw (gLW W c)) := by
  unfold tile
  iintro ⟨Hs, Ho, Hw⟩
  iapply (wp_load_rect 𝒱₀ (c : Thread nD τ) none Set.univ (m := vA) (r := rR b) (S := (rR b).set) (acc_A b).subset) $$ [Hs]
  · iexact Hs
  iintro Hs
  iapply (wp_load_rect 𝒱₀ (c : Thread nD τ) none Set.univ (m := lO) (r := rTO b i) (S := SO) ((acc_TO b i).subset.trans hSO)) $$ [Ho]
  · iexact Ho
  iintro Ho
  iapply (wp_load_rect 𝒱₀ (c : Thread nD τ) none Set.univ (m := lW) (r := rTW i) (S := SW) ((acc_TW i).subset.trans hSW)) $$ [Hw]
  · iexact Hw
  iintro Hw
  rw [read_gA, read_tO, read_tW, show ((Prog.ret (tW W c i)).bind fun w => putAcc b (k0_pay1 (acc X W c b i.val) (tO X c b i) w))
    = (putAcc b (acc X W c b (i.val + 1)) : KProg F PUnit) from by rw [acc_succ]; rfl]
  iapply (atLast c (putAcc_spec X W c b (i.val + 1) (gA X W c i.val)) _) $$ [Hs]
  · iexact Hs
  iintro %a Hs
  isplitl [Hs]; · iexact Hs
  isplitl [Ho]; · iexact Ho
  iexact Hw

/-- A batch of the accumulator rounded, and its copy to the result started. -/
theorem flush_spec (b : Fin 4) :
    iprop(ctx X W K c ∗ idle c (kOut b) ∗ pt cc0_scratch2 c (rR b).set fullShare (gA X W c 4) ∗ ptAny cc0_scratch3 c (rR b).set
        ∗ ptAny main_v2 c (rR b).set)
      ⊢ WP c (flush b) fun _ => iprop(armed c (kOut b) ∗ pt cc0_scratch2 c (rR b).set fullShare (gA X W c 4)) := by
  unfold flush
  iintro ⟨Hctx, Hi, Hs, ⟨%f, Hb⟩, ⟨%g, Hr⟩⟩
  iapply (wp_load_rect 𝒱₀ (c : Thread nD τ) none Set.univ (m := vA) (r := rR b) (S := (rR b).set) (acc_A b).subset) $$ [Hs]
  · iexact Hs
  iintro Hs
  rw [read_gA]
  iapply (wp_load_rect 𝒱₀ (c : Thread nD τ) none Set.univ (m := vB) (r := rR b) (S := (rR b).set) (acc_B b).subset) $$ [Hb]
  · iexact Hb
  iintro Hb
  iapply (wp_store 𝒱₀ (c : Thread nD τ) none Set.univ (m := vB) (r := rR b) (Mk := Finset.univ) (S := (rR b).set) (acc_B b).subset) $$ [Hb]
  · iexact Hb
  iintro Hb
  ihave Hb := (Entails.of_eq (put_gR X W c b f)) $$ Hb
  iapply (atLast c (copyK X W K c (kOut b) (src := vBb b) (dst := mRb b) (cr_Out b) (fs := gR X W c) (fd := g) (by
    rw [pointsTo_congr (landR b g (gR X W c)), set_mRb, set_vBb, pay_Out])) _) $$ [Hctx Hi Hb Hr]
  · isplitl [Hctx]; · iexact Hctx
    isplitl [Hi]; · iexact Hi
    rw [set_mRb, set_vBb]
    isplitl [Hb]; · iexact Hb
    iexact Hr
  iintro %a Ha
  isplitl [Ha]; · iexact Ha
  iexact Hs

/-! ## The waits at the end -/

/-- Waiting for a batch of the result. -/
theorem waitR_spec (b : Fin 4) :
    iprop(ctx X W K c ∗ armed c (kOut b) ∗ owesX c 0) ⊢ WP c (waitR b) fun _ => iprop(pay X W c (kOut b) ∗ spent c (kOut b) ∗ owesX c 0) :=
  waitK X W K c (kOut b) 0 (cr_Out b) (free_ok c _)
/-- Waiting for a chunk of activations relayed by the neighbour. -/
theorem gotO_spec (j : Fin 8) :
    iprop(ctx X W K c ∗ armed c (kO j) ∗ owesX c 0) ⊢ WP c (gotO j) fun _ => iprop(lPt X W false c fullShare j ∗ spent c (kO j) ∗ owesX c 0) :=
  waitK X W K c (kO j) 0 (cr_lO j) (free_ok c _)
/-- Waiting for a chunk of weights relayed by the neighbour. -/
theorem gotW_spec (j : Fin 8) :
    iprop(ctx X W K c ∗ armed c (kWo j) ∗ owesX c 0) ⊢ WP c (gotW j) fun _ => iprop(lPt X W true c fullShare j ∗ spent c (kWo j) ∗ owesX c 0) :=
  waitK X W K c (kWo j) 0 (cr_lW j) (free_ok c _)

/-- What a chunk's two departures give back. -/
def back (j : Fin 8) : sProp 𝕄 :=
  iprop((sPt X W (ev c) c j ∗ spent c (kXs j)) ∗ lPt X W (ev c) c fullShare.left j ∗ spent c (kFw j))

/-- An even device waits until a chunk was sent and relayed. -/
theorem doneW_spec (j : Fin 8) :
    iprop(ctx X W K c ∗ (armed c (kXs j) ∗ armed c (kFw j)) ∗ owesX c 0) ⊢ WP c (doneW j) fun _ => iprop(back X W c j ∗ owesX c 0) := by
  unfold doneW back
  iintro ⟨#Hctx, ⟨Hx, Hf⟩, HO⟩
  iapply (andThen c (waitK X W K c (kXs j) 0 (cr_sW j) (free_ok c _)) _ _) $$ [Hx HO]
  · isplitr; · iexact Hctx
    isplitl [Hx]; · iexact Hx
    iexact HO
  iintro %a ⟨Hp, Hs, HO⟩
  iapply (atLast c (waitK X W K c (kFw j) 0 (cr_lW j) (free_ok c _)) _) $$ [Hf HO]
  · isplitr; · iexact Hctx
    isplitl [Hf]; · iexact Hf
    iexact HO
  iintro %a' ⟨Hp', Hs', HO⟩
  ihave Hp := (Entails.of_eq (pay_Xs X W c j)) $$ Hp
  ihave Hp' := (Entails.of_eq (pay_Fw X W c j)) $$ Hp'
  isplitr [HO]
  · isplitl [Hp Hs]
    · isplitl [Hp]; · iexact Hp
      iexact Hs
    isplitl [Hp']; · iexact Hp'
    iexact Hs'
  iexact HO

/-- An odd device waits until a chunk was sent and relayed. -/
theorem doneO_spec (j : Fin 8) :
    iprop(ctx X W K c ∗ (armed c (kXs j) ∗ armed c (kFw j)) ∗ owesX c 0) ⊢ WP c (doneO j) fun _ => iprop(back X W c j ∗ owesX c 0) := by
  unfold doneO back
  iintro ⟨#Hctx, ⟨Hx, Hf⟩, HO⟩
  iapply (andThen c (waitK X W K c (kXs j) 0 (cr_sO j) (free_ok c _)) _ _) $$ [Hx HO]
  · isplitr; · iexact Hctx
    isplitl [Hx]; · iexact Hx
    iexact HO
  iintro %a ⟨Hp, Hs, HO⟩
  iapply (atLast c (waitK X W K c (kFw j) 0 (cr_lO j) (free_ok c _)) _) $$ [Hf HO]
  · isplitr; · iexact Hctx
    isplitl [Hf]; · iexact Hf
    iexact HO
  iintro %a' ⟨Hp', Hs', HO⟩
  ihave Hp := (Entails.of_eq (pay_Xs X W c j)) $$ Hp
  ihave Hp' := (Entails.of_eq (pay_Fw X W c j)) $$ Hp'
  isplitr [HO]
  · isplitl [Hp Hs]
    · isplitl [Hp]; · iexact Hp
      iexact Hs
    isplitl [Hp']; · iexact Hp'
    iexact Hs'
  iexact HO

end

end Cert.KernelIdeal.Gen
-- ==== Proof.Phases.lean ====
/-
  The phases of the kernel's body: each sequence of fragments, with everything it needs and gives back.
-/
module

public import proofs.«01_k».proof.Proof.Frags

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over an index -/

/-- One resource per index. -/
abbrev all {I : Type} [Fintype I] (Φ : I → sProp 𝕄) : sProp 𝕄 := bigSep Finset.univ Φ

/-- Two families side by side are one family of pairs. -/
theorem all_sep {I : Type} [Fintype I] (Φ Ψ : I → sProp 𝕄) : all (fun i => iprop(Φ i ∗ Ψ i)) = iprop(all Φ ∗ all Ψ) := bigSep_sep' _ _ _

/-- The chunk at each place of each pair. -/
def pairs : Fin 4 × Fin 2 ≃ Fin 8 where
  toFun p := ⟨2 * p.1.val + p.2.val, by have := p.1.isLt; have := p.2.isLt; omega⟩
  invFun j := (⟨j.val / 2, by have := j.isLt; omega⟩, ⟨j.val % 2, Nat.mod_lt _ (by decide)⟩)
  left_inv p := Prod.ext (Fin.ext (by have := p.2.isLt; show (2 * p.1.val + p.2.val) / 2 = p.1.val; omega))
    (Fin.ext (by have := p.2.isLt; show (2 * p.1.val + p.2.val) % 2 = p.2.val; omega))
  right_inv j := Fin.ext (by show 2 * (j.val / 2) + j.val % 2 = j.val; omega)

/-- Eight chunks are four pairs. -/
theorem all_pairs (Φ : Fin 8 → sProp 𝕄) : all Φ = iprop(all (fun b => Φ (lo b)) ∗ all (fun b => Φ (hi b))) := by
  unfold all
  rw [bigSep_univ_equiv pairs, bigSep_univ_prod, ← bigSep_sep']
  exact bigSep_congr fun b _ => BI.bigSep_fin_two _
/-- Four tiles are three and the last. -/
theorem all_last (Φ : Fin 4 → sProp 𝕄) : all Φ = iprop(Φ 3 ∗ all fun i : Fin 3 => Φ i.castSucc) := by
  unfold all
  rw [show (Finset.univ : Finset (Fin 4)) = insert 3 (Finset.univ.map Fin.castSuccEmb) from by decide, BI.bigSep_insert (by decide), BI.bigSep_map]; rfl
/-- Four batches are the first and three. -/
theorem all_first (Φ : Fin 4 → sProp 𝕄) : all Φ = iprop(Φ 0 ∗ all fun i : Fin 3 => Φ i.succ) := by
  unfold all
  rw [show (Finset.univ : Finset (Fin 4)) = insert 0 (Finset.univ.map (Fin.succEmb 3)) from by decide, BI.bigSep_insert (by decide), BI.bigSep_map]; rfl

/-- A buffer is its parts. -/
theorem pt_parts {T : Type} [Fintype T] [DecidableEq T] (b : Ref sig .tc) (c : Dev nD) {K : T → Finset (Idx ((c : Thread nD τ).loc b))} (h : Parts K)
    (q : PosShare TreeShare) (f : Buf (Elt F) ((c : Thread nD τ).loc b)) :
    pt b c Finset.univ q f = all fun t => pt b c (K t) q f := by
  have e := pointsTo_biUnion (ℓ := (c : Thread nD τ).loc b) (q := q) (f := f) (Ix := Unit) (Val := Elt F) (Name := ℕ) (U := UU) (Lvl := ℕ) Finset.univ K h.1
  rw [h.2] at e
  exact e
/-- A buffer of unknown contents, cut into its parts. -/
theorem any_parts {T : Type} [Fintype T] [DecidableEq T] (b : Ref sig .tc) (c : Dev nD) {K : T → Finset (Idx ((c : Thread nD τ).loc b))} (h : Parts K) :
    ptAny (F := F) b c Finset.univ ⊢ all fun t => ptAny b c (K t) := by
  iintro ⟨%f, H⟩
  ihave H := (Entails.of_eq (pt_parts b c h fullShare f)) $$ H
  have h' : (all fun t => pt b c (K t) fullShare f) ⊢ all fun t => ptAny b c (K t) :=
    bigSep_mono fun t _ => show pt b c (K t) fullShare f ⊢ ptAny b c (K t) from by iintro H; iexists f; iexact H
  iapply h'; iexact H
/-- Full rights are two halves. -/
theorem pt_halves (b : Ref sig .tc) (c : Dev nD) (I : Finset (Idx ((c : Thread nD τ).loc b))) (f : Buf (Elt F) ((c : Thread nD τ).loc b)) :
    pt b c I fullShare f = iprop(pt b c I fullShare.left f ∗ pt b c I fullShare.right f) :=
  equiv_iff.mp ⟨(pointsTo_share (PosShare.mem_left_op_right fullShare)).1, (pointsTo_share (PosShare.mem_left_op_right fullShare)).2⟩

section

variable (X : Dev nD → Vec F S4x8x64x512 .f32) (W : Dev nD → Vec F S512x1024 .f32) (K : GSem nD τ sig → ℕ) (c : Dev nD)

/-- A sequence whose steps may all consult the context. -/
theorem phase (n : ℕ) (f : Fin n → KProg F PUnit) (P Q : Fin n → sProp 𝕄) (R : ℕ → sProp 𝕄)
    (h : ∀ j : Fin n, iprop(ctx X W K c ∗ P j ∗ R j.val) ⊢ WP c (f j) fun _ => iprop(Q j ∗ R (j.val + 1))) :
    iprop(ctx X W K c ∗ all P ∗ R 0) ⊢ WP c (seqN n f) fun _ => iprop(all Q ∗ R n) := by
  have h' := seqN_spec c n f P Q (fun k => iprop(ctx X W K c ∗ R k)) fun j => by
    iintro ⟨HP, #Hc, HR⟩
    iapply (atLast c (h j) _) $$ [HP HR]
    · isplitr; · iexact Hc
      isplitl [HP]; · iexact HP
      iexact HR
    iintro %a ⟨HQ, HR⟩
    isplitl [HQ]; · iexact HQ
    isplitr; · iexact Hc
    iexact HR
  iintro ⟨#Hc, HP, HR⟩
  iapply (atLast c h' _) $$ [HP HR]
  · isplitl [HP]; · iexact HP
    isplitr; · iexact Hc
    iexact HR
  iintro %a ⟨HQ, -, HR⟩
  isplitl [HQ]; · iexact HQ
  iexact HR

/-- The accumulator after `t` tiles of every batch. -/
abbrev accAt (t : ℕ) : sProp 𝕄 := all fun b => pt cc0_scratch2 c (rR b).set fullShare (gA X W c t)
/-- The places of the result, and of its staging. -/
abbrev resAny : sProp 𝕄 := iprop((all fun b : Fin 4 => ptAny (F := F) cc0_scratch3 c (rR b).set) ∗ all fun b : Fin 4 => ptAny (F := F) main_v2 c (rR b).set)

/-- All four batches' staging is started. -/
theorem startX_all (S : sProp 𝕄) :
    iprop(ctx X W K c ∗ ((all fun b => idle c (kIn b)) ∗ (all fun b => pt main_v1 c (rX b).set fullShare (X c)) ∗ all fun b => ptAny cc0_scratch1 c (rX b).set) ∗ S)
      ⊢ WP c (seqN 4 startX) fun _ => iprop((all fun b => armed c (kIn b)) ∗ S) := by
  rw [← bigSep_sep', ← bigSep_sep']
  exact phase X W K c 4 startX _ _ (fun _ => S) fun b => (show iprop(ctx X W K c ∗ _ ∗ S) ⊢ iprop((ctx X W K c ∗ _) ∗ S) from sep_assoc.2).trans (aside c (startX_spec X W K c b) S)

/-- All four batches are waited for, rounded and stored. -/
theorem castX_all (n n' : ℕ) :
    iprop(ctx X W K c ∗ ((all fun b => armed c (kIn b)) ∗ all fun b => ptAny cc0_scratch6 c (rS b).set)
        ∗ owesX c (remN (xp c) (ev c) n + remN (yp c) (ev c) n'))
      ⊢ WP c (seqN 4 (castX c)) fun _ => iprop(((all fun b => pay X W c (kIn b)) ∗ (all fun b => pt cc0_scratch6 c (rS b).set fullShare (gSO X c))
          ∗ all fun b => spent c (kIn b)) ∗ owesX c (remN (xp c) (ev c) n + remN (yp c) (ev c) n')) := by
  rw [← bigSep_sep', ← bigSep_sep', ← bigSep_sep']
  refine phase X W K c 4 (castX c) _ _ (fun _ => owesX c (remN (xp c) (ev c) n + remN (yp c) (ev c) n')) fun b => ?_
  iintro ⟨Hc, ⟨Ha, Hs⟩, HO⟩
  iapply (atLast c (castX_spec X W K c n n' b) _) $$ [Hc Ha Hs HO]
  · isplitl [Hc]; · iexact Hc
    isplitl [Ha]; · iexact Ha
    isplitl [Hs]; · iexact Hs
    iexact HO
  iintro %a ⟨Hp, Hs, Hsp, HO⟩
  isplitr [HO]
  · isplitl [Hp]; · iexact Hp
    isplitl [Hs]; · iexact Hs
    iexact Hsp
  iexact HO

/-- Moving brackets. -/
theorem regroup (A B C D E G : sProp 𝕄) : iprop(A ∗ (B ∗ C ∗ D ∗ E) ∗ G) ⊢ iprop(A ∗ B ∗ C ∗ D ∗ E ∗ G) := by
  iintro ⟨A, ⟨B, C, D, E⟩, G⟩; iframe

/-! ## The transfers -/

/-- An even device sends all its weights. -/
theorem sendW_all (h : ev c = true) (R : CellTallies nD τ sig Unit) :
    iprop(ctx X W K c ∗ ((all fun j => idle c (kXs j)) ∗ (all fun j => lander (xp c) (dk true j)) ∗ (all fun j => sPt X W true c j) ∗ land true (xp c))
        ∗ owesX c (remN (xp c) true 0 + R))
      ⊢ WP c (seqN 8 (sendW (xp c))) fun _ => iprop((all fun j => armed c (kXs j)) ∗ owesX c R) := by
  unfold land
  rw [← bigSep_sep', ← bigSep_sep', ← bigSep_sep']
  have h8 := phase X W K c 8 (sendW (xp c)) _ (fun j => armed c (kXs j)) (fun n => owesX c (remN (xp c) true n + R))
    fun j => (regroup _ _ _ _ _ _).trans (sendW_spec X W K c h R j)
  rw [remN_end, zero_add] at h8
  exact h8

/-- An odd device sends all its activations. -/
theorem sendO_all (h : ev c = false) (R : CellTallies nD τ sig Unit) :
    iprop(ctx X W K c ∗ ((all fun j => idle c (kXs j)) ∗ (all fun j => lander (xp c) (dk false j)) ∗ (all fun j => sPt X W false c j) ∗ land false (xp c))
        ∗ owesX c (remN (xp c) false 0 + R))
      ⊢ WP c (seqN 8 (sendO (xp c))) fun _ => iprop((all fun j => armed c (kXs j)) ∗ owesX c R) := by
  unfold land
  rw [← bigSep_sep', ← bigSep_sep', ← bigSep_sep']
  have h8 := phase X W K c 8 (sendO (xp c)) _ (fun j => armed c (kXs j)) (fun n => owesX c (remN (xp c) false n + R))
    fun j => (regroup _ _ _ _ _ _).trans (sendO_spec X W K c h R j)
  rw [remN_end, zero_add] at h8
  exact h8

/-- An even device relays all the weights. -/
theorem relayW_all (h : ev c = true) :
    iprop(ctx X W K c ∗ ((all fun j => armed c (dk true j)) ∗ (all fun j => idle c (kFw j)) ∗ (all fun j => lander (yp c) (dk true j)) ∗ land true (yp c))
        ∗ owesX c (remN (yp c) true 0))
      ⊢ WP c (seqN 8 (relayW (yp c))) fun _ => iprop(((all fun j => spent c (dk true j)) ∗ (all fun j => armed c (kFw j))
          ∗ all fun j => lPt X W true c fullShare.right j) ∗ owesX c 0) := by
  unfold land
  rw [← bigSep_sep', ← bigSep_sep', ← bigSep_sep', ← bigSep_sep', ← bigSep_sep']
  have h8 := phase X W K c 8 (relayW (yp c)) _ _ (fun n => owesX c (remN (yp c) true n))
    fun j => (regroup _ _ _ _ _ _).trans (relayW_spec X W K c h j)
  rw [remN_end] at h8
  exact h8

/-- An odd device relays all the activations. -/
theorem relayO_all (h : ev c = false) :
    iprop(ctx X W K c ∗ ((all fun j => armed c (dk false j)) ∗ (all fun j => idle c (kFw j)) ∗ (all fun j => lander (yp c) (dk false j)) ∗ land false (yp c))
        ∗ owesX c (remN (yp c) false 0))
      ⊢ WP c (seqN 8 (relayO (yp c))) fun _ => iprop(((all fun j => spent c (dk false j)) ∗ (all fun j => armed c (kFw j))
          ∗ all fun j => lPt X W false c fullShare.right j) ∗ owesX c 0) := by
  unfold land
  rw [← bigSep_sep', ← bigSep_sep', ← bigSep_sep', ← bigSep_sep', ← bigSep_sep']
  have h8 := phase X W K c 8 (relayO (yp c)) _ _ (fun n => owesX c (remN (yp c) false n))
    fun j => (regroup _ _ _ _ _ _).trans (relayO_spec X W K c h j)
  rw [remN_end] at h8
  exact h8

/-! ## The own products -/

/-- The own products of all four batches. -/
theorem own_all (S : sProp 𝕄) :
    iprop((all fun b => pt cc0_scratch1 c (rX b).set fullShare (X c)) ∗ (all fun b : Fin 4 => ptAny cc0_scratch2 c (rR b).set) ∗ S)
      ⊢ WP c (own c (k0_pay58 (W c)) (ownX X c 0)) fun _ =>
        iprop((all fun b => pt cc0_scratch1 c (rX b).set fullShare (X c)) ∗ accAt X W c 0 ∗ S) := by
  unfold own
  have h3 := seqN_spec c 3 (fun b => loadOwn c b.succ >>= fun x => putAcc b.succ (k0_pay64 (k0_pay58 (W c)) x))
    (fun b => iprop(pt cc0_scratch1 c (rX b.succ).set fullShare (X c) ∗ ptAny cc0_scratch2 c (rR b.succ).set))
    (fun b => iprop(pt cc0_scratch1 c (rX b.succ).set fullShare (X c) ∗ pt cc0_scratch2 c (rR b.succ).set fullShare (gA X W c 0))) (fun _ => S) fun b => by
      iintro ⟨⟨Hx, ⟨%f, Ha⟩⟩, HS⟩
      iapply (andThen c (loadOwn_spec X c b.succ) _ _) $$ [Hx]
      · iexact Hx
      iintro %x ⟨%hx, Hx⟩
      subst hx
      iapply (atLast c (putAcc_spec X W c b.succ 0 f) _) $$ [Ha]
      · iexact Ha
      iintro %a Ha
      isplitr [HS]
      · isplitl [Hx]; · iexact Hx
        iexact Ha
      iexact HS
  rw [bigSep_sep', bigSep_sep'] at h3
  rw [accAt, all_first, all_first (fun b : Fin 4 => ptAny cc0_scratch2 c (rR b).set), all_first (fun b => pt cc0_scratch2 c (rR b).set fullShare (gA X W c 0))]
  iintro ⟨⟨Hx0, Hxs⟩, ⟨⟨%f, Ha0⟩, Has⟩, HS⟩
  iapply (andThen c (putAcc_spec X W c 0 0 f) _ _) $$ [Ha0]
  · iexact Ha0
  iintro %a Ha0
  iapply (atLast c h3 _) $$ [Hxs Has HS]
  · isplitr [HS]
    · isplitl [Hxs]; · iexact Hxs
      iexact Has
    iexact HS
  iintro %a' ⟨⟨Hxs, Has⟩, HS⟩
  isplitl [Hx0 Hxs]
  · isplitl [Hx0]; · iexact Hx0
    iexact Hxs
  isplitl [Ha0 Has]
  · isplitl [Ha0]; · iexact Ha0
    iexact Has
  iexact HS

/-! ## The tiles -/

/-- All chunks of the activations landed are the whole buffer. -/
theorem lPt_false (q : PosShare TreeShare) : (all fun j => lPt X W false c q j) = pt cc0_scratch7 c Finset.univ q (gLO X c) :=
  (pt_parts cc0_scratch7 c fibO q (gLO X c)).symm
/-- All chunks of the weights landed are the whole buffer. -/
theorem lPt_true (q : PosShare TreeShare) : (all fun j => lPt X W true c q j) = pt cc0_scratch5 c Finset.univ q (gLW W c) :=
  (pt_parts cc0_scratch5 c fibW q (gLW W c)).symm

/-- Two landed chunks of the activations are a batch of them. -/
theorem pairO (b : Fin 4) : iprop(lPt X W false c fullShare (lo b) ∗ lPt X W false c fullShare (hi b)) = pt cc0_scratch7 c (rS b).set fullShare (gLO X c) := by
  unfold lPt
  rw [← pairO_set]
  exact (equiv_iff.mp ⟨(pointsTo_union (pairO_disj b)).1, (pointsTo_union (pairO_disj b)).2⟩).symm
/-- Two landed chunks of the weights are a tile of them. -/
theorem pairW (i : Fin 4) : iprop(lPt X W true c fullShare (lo i) ∗ lPt X W true c fullShare (hi i)) = pt cc0_scratch5 c (rTW i).set fullShare (gLW W c) := by
  unfold lPt
  rw [← pairW_set]
  exact (equiv_iff.mp ⟨(pointsTo_union (pairW_disj i)).1, (pointsTo_union (pairW_disj i)).2⟩).symm

/-- All four tiles of one batch. -/
theorem tiles_batch (b : Fin 4) (q : PosShare TreeShare) :
    iprop(ctx X W K c ∗ pt cc0_scratch2 c (rR b).set fullShare (gA X W c 0) ∗ pt cc0_scratch7 c (rS b).set fullShare (gLO X c)
        ∗ pt cc0_scratch5 c Finset.univ q (gLW W c))
      ⊢ WP c (seqN 4 (tile b)) fun _ => iprop(pt cc0_scratch2 c (rR b).set fullShare (gA X W c 4) ∗ pt cc0_scratch7 c (rS b).set fullShare (gLO X c)
        ∗ pt cc0_scratch5 c Finset.univ q (gLW W c)) := by
  have h4 := seqN_spec c 4 (tile b) (fun _ => iprop(emp)) (fun _ => iprop(emp))
    (fun t => iprop(pt cc0_scratch2 c (rR b).set fullShare (gA X W c t) ∗ pt cc0_scratch7 c (rS b).set fullShare (gLO X c)
      ∗ pt cc0_scratch5 c Finset.univ q (gLW W c))) fun i => by
      iintro ⟨-, H⟩
      iapply (atLast c (tile_spec X W c b i (rTO_sub b i) (Finset.subset_univ _) fullShare q) _) $$ [H]
      · iexact H
      iintro %a H
      isplitr; · iempintro
      iexact H
  have e : (bigSep Finset.univ fun _ : Fin 4 => (iprop(emp) : sProp 𝕄)) = iprop(emp) := bigSep_emp_const _
  rw [e] at h4
  iintro ⟨-, H⟩
  iapply (atLast c h4 _) $$ [H]
  · isplitr; · iempintro
    iexact H
  iintro %a ⟨-, H⟩
  iexact H

/-- An even device from its relays to the result's copies: the activations arrive batch by batch. -/
theorem evenRest_spec (h : ev c = true) :
    iprop(ctx X W K c ∗ owesX c (remN (yp c) true 0)
        ∗ ((all fun j => armed c (kWo j)) ∗ (all fun j => idle c (kFw j)) ∗ (all fun j => lander (yp c) (dk true j)) ∗ land true (yp c))
        ∗ (all fun j => armed c (kO j)) ∗ (all fun b => idle c (kOut b)) ∗ accAt X W c 0 ∗ resAny c)
      ⊢ WP c (evenRest (yp c)) fun _ => iprop(owesX c 0 ∗ (all fun j => armed c (kFw j)) ∗ (all fun j => spent c (kWo j)) ∗ (all fun j => spent c (kO j))
        ∗ (all fun b => armed c (kOut b)) ∗ accAt X W c 4 ∗ (all fun j => lPt X W true c fullShare.right j)
        ∗ all fun j => lPt X W false c fullShare j) := by
  unfold evenRest
  have h4 := phase X W K c 4 (fun b => gotO (lo b) >>= fun _ => gotO (hi b) >>= fun _ => seqN 4 (tile b) >>= fun _ => flush b)
    (fun b => iprop((armed c (kO (lo b)) ∗ armed c (kO (hi b))) ∗ idle c (kOut b) ∗ pt cc0_scratch2 c (rR b).set fullShare (gA X W c 0)
      ∗ ptAny cc0_scratch3 c (rR b).set ∗ ptAny main_v2 c (rR b).set))
    (fun b => iprop((spent c (kO (lo b)) ∗ spent c (kO (hi b))) ∗ armed c (kOut b) ∗ pt cc0_scratch2 c (rR b).set fullShare (gA X W c 4)
      ∗ lPt X W false c fullShare (lo b) ∗ lPt X W false c fullShare (hi b)))
    (fun _ => iprop(owesX c 0 ∗ pt cc0_scratch5 c Finset.univ fullShare.right (gLW W c))) fun b => by
      iintro ⟨#Hc, ⟨⟨Hl, Hh⟩, Hi, Ha, Hb, Hr⟩, HO, Hw⟩
      iapply (andThen c (gotO_spec X W K c (lo b)) _ _) $$ [Hl HO]
      · iframe; iexact Hc
      iintro %a1 ⟨Hpl, Hsl, HO⟩
      iapply (andThen c (gotO_spec X W K c (hi b)) _ _) $$ [Hh HO]
      · iframe; iexact Hc
      iintro %a2 ⟨Hph, Hsh, HO⟩
      ihave Hp := (Entails.of_eq (pairO X W c b)) $$ [Hpl Hph]
      · iframe
      iapply (andThen c (tiles_batch X W K c b fullShare.right) _ _) $$ [Ha Hp Hw]
      · iframe; iexact Hc
      iintro %a3 ⟨Ha, Hp, Hw⟩
      iapply (atLast c (flush_spec X W K c b) _) $$ [Hi Ha Hb Hr]
      · iframe; iexact Hc
      iintro %a4 ⟨Ho, Ha⟩
      ihave Hp := (Entails.of_eq (pairO X W c b).symm) $$ Hp
      iframe
  simp only [all_sep] at h4
  rw [← all_pairs (fun j => armed c (kO j)), ← all_pairs (fun j => spent c (kO j)), ← all_pairs (fun j => lPt X W false c fullShare j)] at h4
  iintro ⟨#Hc, HO, Hrel, HaO, Hio, Hacc, Hb, Hr⟩
  iapply (andThen c (relayW_all X W K c h) _ _) $$ [HO Hrel]
  · isplitr; · iexact Hc
    isplitl [Hrel]; · iexact Hrel
    iexact HO
  iintro %a ⟨⟨Hsw, Hfw, Hlp⟩, HO⟩
  ihave Hlp := (Entails.of_eq (lPt_true X W c _)) $$ Hlp
  iapply (atLast c h4 _) $$ [HO HaO Hio Hacc Hb Hr Hlp]
  · iframe; iexact Hc
  iintro %a ⟨⟨HsO, Ho, Hacc, HlO⟩, HO, Hlp⟩
  ihave Hlp := (Entails.of_eq (lPt_true X W c _).symm) $$ Hlp
  isplitl [HO]; · iexact HO
  isplitl [Hfw]; · iexact Hfw
  isplitl [Hsw]; · iexact Hsw
  iframe

/-- Tile `i` of every batch. -/
theorem tiles_col (i : Fin 4) (q : PosShare TreeShare) :
    iprop(accAt X W c i.val ∗ pt cc0_scratch7 c Finset.univ q (gLO X c) ∗ pt cc0_scratch5 c (rTW i).set fullShare (gLW W c))
      ⊢ WP c (seqN 4 fun b => tile b i) fun _ => iprop(accAt X W c (i.val + 1) ∗ pt cc0_scratch7 c Finset.univ q (gLO X c)
        ∗ pt cc0_scratch5 c (rTW i).set fullShare (gLW W c)) :=
  seqN_spec c 4 (fun b => tile b i) _ _ (fun _ => iprop(pt cc0_scratch7 c Finset.univ q (gLO X c) ∗ pt cc0_scratch5 c (rTW i).set fullShare (gLW W c)))
    fun b => tile_spec X W c b i (Finset.subset_univ _) (subset_refl _) q fullShare

/-- Tile `i`: its chunks of the weights are waited for, then every batch takes it. -/
theorem col_spec (i : Fin 4) (q : PosShare TreeShare) {α : Type} (k : KProg F α) (Q : α → sProp 𝕄) :
    iprop(ctx X W K c ∗ (armed c (kWo (lo i)) ∗ armed c (kWo (hi i))) ∗ owesX c 0)
      ⊢ iprop((((spent c (kWo (lo i)) ∗ spent c (kWo (hi i))) ∗ owesX c 0 ∗ pt cc0_scratch5 c (rTW i).set fullShare (gLW W c)) -∗ WP c k Q)
        -∗ WP c (gotW (lo i) >>= fun _ => gotW (hi i) >>= fun _ => k) Q) := by
  iintro ⟨#Hc, ⟨Hl, Hh⟩, HO⟩ Hk
  iapply (andThen c (gotW_spec X W K c (lo i)) _ _) $$ [Hl HO]
  · iframe; iexact Hc
  iintro %a1 ⟨Hpl, Hsl, HO⟩
  iapply (andThen c (gotW_spec X W K c (hi i)) _ _) $$ [Hh HO]
  · iframe; iexact Hc
  iintro %a2 ⟨Hph, Hsh, HO⟩
  ihave Hp := (Entails.of_eq (pairW X W c i)) $$ [Hpl Hph]
  · iframe
  iapply Hk
  iframe

/-- An odd device from its relays to the result's copies: the weights arrive tile by tile. -/
theorem oddRest_spec (h : ev c = false) :
    iprop(ctx X W K c ∗ owesX c (remN (yp c) false 0)
        ∗ ((all fun j => armed c (kO j)) ∗ (all fun j => idle c (kFw j)) ∗ (all fun j => lander (yp c) (dk false j)) ∗ land false (yp c))
        ∗ (all fun j => armed c (kWo j)) ∗ (all fun b => idle c (kOut b)) ∗ accAt X W c 0 ∗ resAny c)
      ⊢ WP c (oddRest (yp c)) fun _ => iprop(owesX c 0 ∗ (all fun j => armed c (kFw j)) ∗ (all fun j => spent c (kO j)) ∗ (all fun j => spent c (kWo j))
        ∗ (all fun b => armed c (kOut b)) ∗ accAt X W c 4 ∗ (all fun j => lPt X W false c fullShare.right j)
        ∗ all fun j => lPt X W true c fullShare j) := by
  unfold oddRest
  have h3 := phase X W K c 3 (fun i => gotW (lo i.castSucc) >>= fun _ => gotW (hi i.castSucc) >>= fun _ => seqN 4 fun b => tile b i.castSucc)
    (fun i => iprop(armed c (kWo (lo i.castSucc)) ∗ armed c (kWo (hi i.castSucc))))
    (fun i => iprop((spent c (kWo (lo i.castSucc)) ∗ spent c (kWo (hi i.castSucc))) ∗ pt cc0_scratch5 c (rTW i.castSucc).set fullShare (gLW W c)))
    (fun t => iprop(owesX c 0 ∗ pt cc0_scratch7 c Finset.univ fullShare.right (gLO X c) ∗ accAt X W c t)) fun i => by
      iintro ⟨#Hc, Ha, HO, Hp, Hacc⟩
      iapply (col_spec X W K c i.castSucc fullShare.right _ _) $$ [Ha HO]
      · iframe; iexact Hc
      iintro ⟨Hs, HO, Hw⟩
      iapply (atLast c (tiles_col X W c i.castSucc fullShare.right) _) $$ [Hacc Hp Hw]
      · isplitl [Hacc]; · iexact Hacc
        iframe
      iintro %a ⟨Hacc, Hp, Hw⟩
      isplitl [Hs Hw]; · iframe
      isplitl [HO]; · iexact HO
      isplitl [Hp]; · iexact Hp
      iexact Hacc
  have h4 := phase X W K c 4 (fun b => tile b 3 >>= fun _ => flush b)
    (fun b => iprop(idle c (kOut b) ∗ pt cc0_scratch2 c (rR b).set fullShare (gA X W c 3) ∗ ptAny cc0_scratch3 c (rR b).set ∗ ptAny main_v2 c (rR b).set))
    (fun b => iprop(armed c (kOut b) ∗ pt cc0_scratch2 c (rR b).set fullShare (gA X W c 4)))
    (fun _ => iprop(pt cc0_scratch7 c Finset.univ fullShare.right (gLO X c) ∗ pt cc0_scratch5 c (rTW 3).set fullShare (gLW W c))) fun b => by
      iintro ⟨#Hc, ⟨Hi, Ha, Hb, Hr⟩, Hp, Hw⟩
      iapply (andThen c (tile_spec X W c b 3 (Finset.subset_univ _) (subset_refl _) fullShare.right fullShare) _ _) $$ [Ha Hp Hw]
      · isplitl [Ha]; · iexact Ha
        iframe
      iintro %a ⟨Ha, Hp, Hw⟩
      iapply (atLast c (flush_spec X W K c b) _) $$ [Hi Ha Hb Hr]
      · isplitr; · iexact Hc
        isplitl [Hi]; · iexact Hi
        isplitl [Ha]; · iexact Ha
        iframe
      iintro %a ⟨Ho, Ha⟩
      iframe
  simp only [all_sep] at h3 h4
  rw [all_pairs (fun j => armed c (kWo j)), all_last (fun b => armed c (kWo (lo b))), all_last (fun b => armed c (kWo (hi b))),
    all_pairs (fun j => spent c (kWo j)), all_last (fun b => spent c (kWo (lo b))), all_last (fun b => spent c (kWo (hi b))),
    all_pairs (fun j => lPt X W true c fullShare j), ← all_sep, funext fun b => pairW X W c b, all_last (fun b => pt cc0_scratch5 c (rTW b).set fullShare (gLW W c))]
  iintro ⟨#Hc, HO, Hrel, ⟨⟨Hl3, Hls⟩, Hh3, Hhs⟩, Hio, Hacc, Hb, Hr⟩
  iapply (andThen c (relayO_all X W K c h) _ _) $$ [HO Hrel]
  · isplitr; · iexact Hc
    isplitl [Hrel]; · iexact Hrel
    iexact HO
  iintro %a ⟨⟨Hsw, Hfw, Hlp⟩, HO⟩
  ihave Hlp := (Entails.of_eq (lPt_false X W c _)) $$ Hlp
  iapply (andThen c h3 _ _) $$ [HO Hls Hhs Hacc Hlp]
  · iframe; iexact Hc
  iintro %a ⟨⟨⟨Hsl, Hsh⟩, Hws⟩, HO, Hlp, Hacc⟩
  iapply (col_spec X W K c 3 fullShare.right _ _) $$ [HO Hl3 Hh3]
  · iframe; iexact Hc
  iintro ⟨⟨Hsl3, Hsh3⟩, HO, Hw⟩
  iapply (atLast c h4 _) $$ [Hio Hacc Hb Hr Hlp Hw]
  · iframe; iexact Hc
  iintro %a ⟨⟨Ho, Hacc⟩, Hlp, Hw⟩
  ihave Hlp := (Entails.of_eq (lPt_false X W c _).symm) $$ Hlp
  isplitl [HO]; · iexact HO
  isplitl [Hfw]; · iexact Hfw
  isplitl [Hsw]; · iexact Hsw
  iframe

/-! ## The waits at the end -/

/-- All chunks have been sent and relayed. -/
theorem done_all (e : Bool) :
    iprop(ctx X W K c ∗ ((all fun j => armed c (kXs j)) ∗ (all fun j => armed c (kFw j))) ∗ owesX c 0)
      ⊢ WP c (seqN 8 (if e then doneW else doneO)) fun _ => iprop((all fun j => back X W c j) ∗ owesX c 0) := by
  rw [← all_sep]
  cases e
  · exact phase X W K c 8 doneO _ _ (fun _ => owesX c 0) (doneO_spec X W K c)
  · exact phase X W K c 8 doneW _ _ (fun _ => owesX c 0) (doneW_spec X W K c)

/-- All four batches of the result have been copied. -/
theorem waitR_all :
    iprop(ctx X W K c ∗ (all fun b => armed c (kOut b)) ∗ owesX c 0)
      ⊢ WP c (seqN 4 waitR) fun _ => iprop(((all fun b => pay X W c (kOut b)) ∗ all fun b => spent c (kOut b)) ∗ owesX c 0) := by
  rw [← all_sep]
  refine phase X W K c 4 waitR _ _ (fun _ => owesX c 0) fun b => ?_
  iintro ⟨Hc, Ha, HO⟩
  iapply (atLast c (waitR_spec X W K c b) _) $$ [Hc Ha HO]
  · iframe
  iintro %a ⟨Hp, Hs, HO⟩
  iframe

end

end Cert.KernelIdeal.Gen
-- ==== Proof.Body.lean ====
/-
  One device's run of the kernel's body, from its buffers and rights at launch to the result.
-/
module

public import proofs.«01_k».proof.Proof.Phases

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program of each parity -/

/-- The body after the rounded operands. -/
def tail (d : Dev nD) (w : FVec F S512x1024 .bf16) : KProg F PUnit :=
  direct d >>= fun x => own d w x >>= fun _ => relayE d >>= fun _ => relayD d >>= fun v => finE d v >>= fun u => finD u

/-- The body is its head and its tail. -/
theorem body_tail : body (F := F) = head >>= fun x => tail x.1 x.2 := rfl

/-- An even device sends weights, relays weights, and takes batch after batch. -/
theorem tail_even (d : Dev nD) (w : FVec F S512x1024 .bf16) (h : ev d = true) :
    tail d w = seqN 8 (sendW (xp d)) >>= fun _ => loadOwn d 0 >>= fun x => own d w x >>= fun _ => evenRest (yp d) >>= fun _ =>
      seqN 8 doneW >>= fun _ => seqN 4 waitR >>= fun _ => pure ⟨⟩ := by
  have h' : ¬ev d = false := by rw [h]; decide
  unfold tail direct relayE relayD finE finD
  simp only [dif_pos ((cond1_iff d).mpr h), dif_neg (mt (cond2_iff d).mp h'), dif_pos ((cond3_iff d).mpr h), dif_neg (mt (cond4_iff d).mp h'),
    dif_pos ((condE_iff d).mpr h), dif_neg (mt (condD_iff d).mp h'), bind_assoc, pure_bind]
  rw [dev3_eq d ((cond1_iff d).mpr h), dev19_eq d ((cond3_iff d).mpr h)]

/-- An odd device sends activations, relays activations, and takes tile after tile. -/
theorem tail_odd (d : Dev nD) (w : FVec F S512x1024 .bf16) (h : ev d = false) :
    tail d w = seqN 8 (sendO (xp d)) >>= fun _ => loadOwn d 0 >>= fun x => own d w x >>= fun _ => oddRest (yp d) >>= fun _ =>
      seqN 8 doneO >>= fun _ => seqN 4 waitR >>= fun _ => pure ⟨⟩ := by
  have h' : ¬ev d = true := by rw [h]; decide
  unfold tail direct relayE relayD finE finD
  simp only [dif_neg (mt (cond1_iff d).mp h'), dif_pos ((cond2_iff d).mpr h), dif_neg (mt (cond3_iff d).mp h'), dif_pos ((cond4_iff d).mpr h),
    dif_neg (mt (condE_iff d).mp h'), dif_pos ((condD_iff d).mpr h), bind_assoc, pure_bind]
  rw [dev11_eq d ((cond2_iff d).mpr h), dev27_eq d ((cond4_iff d).mpr h)]

section

variable (X : Dev nD → Vec F S4x8x64x512 .f32) (W : Dev nD → Vec F S512x1024 .f32) (K : GSem nD τ sig → ℕ) (c : Dev nD)

/-! ## Up to the rounded operands -/

/-- Asking for the device's number. -/
theorem deviceId_spec (S : sProp 𝕄) : S ⊢ WP (F := F) c (Prog.lift .deviceId) fun d => iprop(⌜d = c⌝ ∗ S) := by
  unfold WP Prog.lift
  rw [wp_deviceId, wp_ret]
  iintro H
  imodintro
  isplitr; · ipureintro; rfl
  iexact H

/-- The places to land in, with the cells open. -/
theorem land_of (e : Bool) : iprop(ctx X W K c ∗ all fun j => lAny e c j) ⊢ land e c := by
  unfold land
  refine bigSep_with_persistent (R := ctx X W K c) fun j _ => ?_
  iintro ⟨#Hc, H⟩
  isplitl [H]; · iexact H
  iapply (ctx_reached X W K c (dk e j)); iexact Hc
/-- The two landing buffers are the landing places for both kinds of chunks. -/
theorem lands_of : iprop(ctx X W K c ∗ ptAny cc0_scratch5 c Finset.univ ∗ ptAny cc0_scratch7 c Finset.univ) ⊢ iprop(land (ev c) c ∗ land (!ev c) c) := by
  have h (e : Bool) : iprop(ctx X W K c ∗ ptAny cc0_scratch5 c Finset.univ ∗ ptAny cc0_scratch7 c Finset.univ) ⊢ iprop(land true c ∗ land false c) := by
    iintro ⟨#Hc, Hw, Ho⟩
    ihave Hw := (any_parts cc0_scratch5 c fibW) $$ Hw
    ihave Ho := (any_parts cc0_scratch7 c fibO) $$ Ho
    isplitl [Hw]
    · iapply (land_of X W K c true); isplitr; · iexact Hc
      iexact Hw
    · iapply (land_of X W K c false); isplitr; · iexact Hc
      iexact Ho
  cases ev c
  · exact (h true).trans BI.sep_comm
  · exact h true

/-- What the staging of all batches pays. -/
theorem all_pay_In : (all fun b => pay X W c (kIn b))
    = iprop((all fun b => pt cc0_scratch1 c (rX b).set fullShare (X c)) ∗ all fun b => pt main_v1 c (rX b).set fullShare (X c)) := all_sep _ _
/-- What the copies of all batches of the result pay. -/
theorem all_pay_Out : (all fun b => pay X W c (kOut b))
    = iprop((all fun b => pt main_v2 c (rR b).set fullShare (gR X W c)) ∗ all fun b => pt cc0_scratch3 c (rR b).set fullShare (gR X W c)) := all_sep _ _

/-- What the first part takes. -/
def headIn : sProp 𝕄 :=
  iprop(shaking c ∗ owesX c (O₀ c) ∗ idle c kW ∗ (all fun b => idle c (kIn b)) ∗ pt main_v1 c Finset.univ fullShare (X c)
    ∗ pt main_arg1 c Finset.univ fullShare (W c) ∗ ptAny cc0_scratch0 c Finset.univ ∗ ptAny cc0_scratch1 c Finset.univ
    ∗ ptAny cc0_scratch4 c Finset.univ ∗ ptAny cc0_scratch5 c Finset.univ ∗ ptAny cc0_scratch6 c Finset.univ ∗ ptAny cc0_scratch7 c Finset.univ)
/-- What it leaves. -/
def headOut : sProp 𝕄 :=
  iprop((atPos ER (barCell c) (0 + 1) ∅ 0 ∗ spent c kW ∗ (all fun b => spent c (kIn b)) ∗ pt cc0_scratch0 c Finset.univ fullShare (W c)
      ∗ pt main_arg1 c Finset.univ fullShare (W c) ∗ (all fun b => pt main_v1 c (rX b).set fullShare (X c)))
    ∗ (all fun b => pt cc0_scratch1 c (rX b).set fullShare (X c))
    ∗ pt cc0_scratch4 c Finset.univ fullShare (gSW W c) ∗ pt cc0_scratch6 c Finset.univ fullShare (gSO X c)
    ∗ land (ev c) (xp c) ∗ land (ev c) (yp c) ∗ owesX c (remN (xp c) (ev c) 0 + remN (yp c) (ev c) 0))

/-- The head: operands staged and rounded, the barrier passed. -/
theorem head_spec : iprop(ctx X W K c ∗ headIn X W c) ⊢ WP c head fun x => iprop(⌜x = ⟨c, k0_pay58 (W c)⟩⌝ ∗ headOut X W c) := by
  unfold head headIn headOut
  iintro ⟨#Hc, Hsh, HO, Hiw, Hix, Hmx, Hmw, Hw, Hx, Hsw, Hlw, Hso, Hlo⟩
  iapply (andThen c (deviceId_spec c iprop(emp)) _ _) $$ []
  · iempintro
  iintro %d ⟨%hd, -⟩
  subst hd
  iapply (andThen d (startW_spec X W K d) _ _) $$ [Hiw Hmw Hw]
  · iframe; iexact Hc
  iintro %a Haw
  ihave Hmx := (Entails.of_eq (pt_parts main_v1 d fibX fullShare (X d))) $$ Hmx
  ihave Hx := (any_parts cc0_scratch1 d fibX) $$ Hx
  iapply (andThen d (startX_all X W K d (owesX d (O₀ d))) _ _) $$ [Hix Hmx Hx HO]
  · iframe; iexact Hc
  iintro %a ⟨Hax, HO⟩
  ihave Hl := (lands_of X W K d) $$ [Hlw Hlo]
  · iframe; iexact Hc
  icases Hl with ⟨Hl, Hl'⟩
  iapply (andThen d (shake_spec X W K d) _ _) $$ [Hsh HO Hl Hl']
  · iframe; iexact Hc
  iintro %a ⟨Hbar, Hlx, Hly, HO⟩
  iapply (andThen d (castW_spec X W K d 0 0) _ _) $$ [Haw Hsw HO]
  · isplitr; · iexact Hc
    isplitl [Haw]; · iexact Haw
    isplitl [Hsw]; · iexact Hsw
    iexact HO
  iintro %w ⟨%hw, Hp, Hsw, Hspw, HO⟩
  subst hw
  ihave Hp := (Entails.of_eq (pay_W X W d)) $$ Hp
  icases Hp with ⟨Hw, Hmw⟩
  ihave Hso := (any_parts cc0_scratch6 d fibS) $$ Hso
  iapply (andThen d (castX_all X W K d 0 0) _ _) $$ [Hax Hso HO]
  · isplitr; · iexact Hc
    isplitl [Hax Hso]; · iframe
    iexact HO
  iintro %a ⟨⟨Hp, Hso, Hspx⟩, HO⟩
  ihave Hp := (Entails.of_eq (all_pay_In X W d)) $$ Hp
  icases Hp with ⟨Hx, Hmx⟩
  ihave Hso := (Entails.of_eq (pt_parts cc0_scratch6 d fibS fullShare (gSO X d)).symm) $$ Hso
  unfold WP
  rw [wp_pure]
  imodintro
  isplitr; · ipureintro; rfl
  isplitl [Hbar Hspw Hspx Hw Hmw Hmx]
  · iframe
  isplitl [Hx]; · iexact Hx
  isplitl [Hsw]; · iexact Hsw
  isplitl [Hso]; · iexact Hso
  isplitl [Hlx]; · iexact Hlx
  isplitl [Hly]; · iexact Hly
  iexact HO

/-! ## From there to the end -/

/-- A pair by parity, in the order of a device. -/
theorem swap (Φ : Bool → sProp 𝕄) (e : Bool) : iprop(Φ true ∗ Φ false) = iprop(Φ e ∗ Φ (!e)) := by
  cases e
  · exact equiv_iff.mp ⟨BI.sep_comm, BI.sep_comm⟩
  · rfl
/-- The two buffers to send from, by parity and chunk. -/
theorem sent (e : Bool) : iprop(pt cc0_scratch4 c Finset.univ fullShare (gSW W c) ∗ pt cc0_scratch6 c Finset.univ fullShare (gSO X c))
    = iprop((all fun j => sPt X W e c j) ∗ all fun j => sPt X W (!e) c j) := by
  rw [← swap (fun e => all fun j => sPt X W e c j) e, pt_parts cc0_scratch4 c fibW, pt_parts cc0_scratch6 c fibO]; rfl
/-- The two landing buffers, by parity and chunk. -/
theorem landed (e : Bool) : iprop((all fun j => lPt X W e c fullShare j) ∗ all fun j => lPt X W (!e) c fullShare j)
    = iprop(pt cc0_scratch5 c Finset.univ fullShare (gLW W c) ∗ pt cc0_scratch7 c Finset.univ fullShare (gLO X c)) := by
  rw [← swap (fun e => all fun j => lPt X W e c fullShare j) e, lPt_true, lPt_false]
/-- The two halves of the chunks relayed are the chunks. -/
theorem halves (e : Bool) : iprop((all fun j => lPt X W e c fullShare.left j) ∗ all fun j => lPt X W e c fullShare.right j) = all fun j => lPt X W e c fullShare j := by
  rw [← all_sep]
  refine bigSep_congr fun j _ => ?_
  cases e
  · exact (pt_halves cc0_scratch7 c _ _).symm
  · exact (pt_halves cc0_scratch5 c _ _).symm
/-- What the last waits return. -/
theorem all_back : (all fun j => back X W c j) = iprop(((all fun j => sPt X W (ev c) c j) ∗ all fun j => spent c (kXs j))
    ∗ (all fun j => lPt X W (ev c) c fullShare.left j) ∗ all fun j => spent c (kFw j)) := by
  unfold back
  simp only [all_sep]

/-- The cells the second part uses, and its rights on the partners'. -/
def rights : sProp 𝕄 :=
  iprop((all fun j => idle c (kXs j)) ∗ (all fun j => idle c (kFw j)) ∗ (all fun b => idle c (kOut b))
    ∗ (all fun j => lander (xp c) (dk (ev c) j)) ∗ (all fun j => lander (yp c) (dk (ev c) j))
    ∗ (all fun j => armed c (kWo j)) ∗ all fun j => armed c (kO j))
/-- What the tail starts with. -/
def tailIn : sProp 𝕄 :=
  iprop(rights c ∗ ptAny cc0_scratch2 c Finset.univ ∗ ptAny cc0_scratch3 c Finset.univ ∗ ptAny main_v2 c Finset.univ
    ∗ (all fun b => pt cc0_scratch1 c (rX b).set fullShare (X c))
    ∗ pt cc0_scratch4 c Finset.univ fullShare (gSW W c) ∗ pt cc0_scratch6 c Finset.univ fullShare (gSO X c)
    ∗ land (ev c) (xp c) ∗ land (ev c) (yp c) ∗ owesX c (remN (xp c) (ev c) 0 + remN (yp c) (ev c) 0))
/-- What the tail ends with. -/
def tailOut : sProp 𝕄 :=
  iprop(((all fun b => spent c (kOut b)) ∗ (all fun j => spent c (kXs j)) ∗ (all fun j => spent c (kWo j)) ∗ (all fun j => spent c (kO j))
      ∗ all fun j => spent c (kFw j))
    ∗ owesX c 0 ∗ pt main_v2 c Finset.univ fullShare (gR X W c)
    ∗ (all fun b => pt cc0_scratch1 c (rX b).set fullShare (X c)) ∗ pt cc0_scratch2 c Finset.univ fullShare (gA X W c 4)
    ∗ pt cc0_scratch3 c Finset.univ fullShare (gR X W c) ∗ pt cc0_scratch4 c Finset.univ fullShare (gSW W c)
    ∗ pt cc0_scratch5 c Finset.univ fullShare (gLW W c) ∗ pt cc0_scratch6 c Finset.univ fullShare (gSO X c)
    ∗ pt cc0_scratch7 c Finset.univ fullShare (gLO X c))

/-- The second part, for a device of parity `e`: what it sends, what it relays and takes, and which waits it ends with. -/
theorem tail_run (e : Bool) (he : ev c = e) (send rest : KProg F PUnit)
    (hs : ∀ R, iprop(ctx X W K c ∗ ((all fun j => idle c (kXs j)) ∗ (all fun j => lander (xp c) (dk e j)) ∗ (all fun j => sPt X W e c j) ∗ land e (xp c))
        ∗ owesX c (remN (xp c) e 0 + R)) ⊢ WP c send fun _ => iprop((all fun j => armed c (kXs j)) ∗ owesX c R))
    (hr : iprop(ctx X W K c ∗ owesX c (remN (yp c) e 0)
        ∗ ((all fun j => armed c (dk e j)) ∗ (all fun j => idle c (kFw j)) ∗ (all fun j => lander (yp c) (dk e j)) ∗ land e (yp c))
        ∗ (all fun j => armed c (dk (!e) j)) ∗ (all fun b => idle c (kOut b)) ∗ accAt X W c 0 ∗ resAny c)
      ⊢ WP c rest fun _ => iprop(owesX c 0 ∗ (all fun j => armed c (kFw j)) ∗ (all fun j => spent c (dk e j)) ∗ (all fun j => spent c (dk (!e) j))
        ∗ (all fun b => armed c (kOut b)) ∗ accAt X W c 4 ∗ (all fun j => lPt X W e c fullShare.right j)
        ∗ all fun j => lPt X W (!e) c fullShare j)) :
    iprop(ctx X W K c ∗ tailIn X W c)
      ⊢ WP c (send >>= fun _ => loadOwn c 0 >>= fun x => own c (k0_pay58 (W c)) x >>= fun _ => rest >>= fun _ =>
          seqN 8 (if e then doneW else doneO) >>= fun _ => seqN 4 waitR >>= fun _ => (pure PUnit.unit : KProg F PUnit.{1})) fun _ => tailOut X W c := by
  have hown := all_first (fun b => pt cc0_scratch1 c (rX b).set fullShare (X c))
  subst he
  unfold tailIn tailOut rights
  iintro ⟨#Hc, ⟨Hix, Hif, Hio, Htx, Hty, Haw, Hao⟩, Hacc, Hb, Hr, Hx, Hsw, Hso, Hlx, Hly, HO⟩
  ihave Hs := (Entails.of_eq (sent X W c (ev c))) $$ [Hsw Hso]
  · iframe
  icases Hs with ⟨Hs, Hs'⟩
  ihave Ha := (Entails.of_eq (swap (fun e => all fun j => armed c (dk e j)) (ev c))) $$ [Haw Hao]
  · isplitl [Haw]; · iexact Haw
    iexact Hao
  icases Ha with ⟨Ha, Ha'⟩
  iapply (andThen c (hs _) _ _) $$ [Hix Htx Hs Hlx HO]
  · isplitr; · iexact Hc
    isplitr [HO]; · iframe
    iexact HO
  iintro %a ⟨Hax, HO⟩
  ihave Hx := (Entails.of_eq hown) $$ Hx
  icases Hx with ⟨Hx0, Hxs⟩
  iapply (andThen c (loadOwn_spec X c 0) _ _) $$ [Hx0]
  · iexact Hx0
  iintro %x ⟨%hx, Hx0⟩
  subst hx
  ihave Hx := (Entails.of_eq hown.symm) $$ [Hx0 Hxs]
  · isplitl [Hx0]; · iexact Hx0
    iexact Hxs
  ihave Hacc := (any_parts cc0_scratch2 c fibR) $$ Hacc
  iapply (andThen c (own_all X W c iprop(emp)) _ _) $$ [Hx Hacc]
  · isplitl [Hx]; · iexact Hx
    isplitl [Hacc]; · iexact Hacc
    iempintro
  iintro %a ⟨Hx, Hacc, -⟩
  ihave Hb := (any_parts cc0_scratch3 c fibR) $$ Hb
  ihave Hr := (any_parts main_v2 c fibR) $$ Hr
  iapply (andThen c hr _ _) $$ [HO Ha Hif Hty Hly Ha' Hio Hacc Hb Hr]
  · isplitr; · iexact Hc
    isplitl [HO]; · iexact HO
    isplitl [Ha Hif Hty Hly]; · iframe
    isplitl [Ha']; · iexact Ha'
    isplitl [Hio]; · iexact Hio
    isplitl [Hacc]; · iexact Hacc
    isplitl [Hb]; · iexact Hb
    iexact Hr
  iintro %a ⟨HO, Haf, Hsp, Hsp', Hao, Hacc, Hl, Hl'⟩
  iapply (andThen c (done_all X W K c (ev c)) _ _) $$ [Hax Haf HO]
  · isplitr; · iexact Hc
    isplitr [HO]; · iframe
    iexact HO
  iintro %a ⟨Hbk, HO⟩
  ihave Hbk := (Entails.of_eq (all_back X W c)) $$ Hbk
  icases Hbk with ⟨⟨Hs, Hspx⟩, Hl2, Hspf⟩
  iapply (andThen c (waitR_all X W K c) _ _) $$ [Hao HO]
  · isplitr; · iexact Hc
    isplitl [Hao]; · iexact Hao
    iexact HO
  iintro %a ⟨⟨Hp, Hspo⟩, HO⟩
  ihave Hp := (Entails.of_eq (all_pay_Out X W c)) $$ Hp
  icases Hp with ⟨Hr, Hb⟩
  ihave Hr := (Entails.of_eq (pt_parts main_v2 c fibR fullShare (gR X W c)).symm) $$ Hr
  ihave Hb := (Entails.of_eq (pt_parts cc0_scratch3 c fibR fullShare (gR X W c)).symm) $$ Hb
  ihave Hacc := (Entails.of_eq (pt_parts cc0_scratch2 c fibR fullShare (gA X W c 4)).symm) $$ Hacc
  ihave Hs := (Entails.of_eq (sent X W c (ev c)).symm) $$ [Hs Hs']
  · isplitl [Hs]; · iexact Hs
    iexact Hs'
  icases Hs with ⟨Hsw, Hso⟩
  ihave Hl := (Entails.of_eq (halves X W c (ev c))) $$ [Hl Hl2]
  · isplitl [Hl2]; · iexact Hl2
    iexact Hl
  ihave Hl := (Entails.of_eq (landed X W c (ev c))) $$ [Hl Hl']
  · isplitl [Hl]; · iexact Hl
    iexact Hl'
  icases Hl with ⟨Hlw, Hlo⟩
  ihave Hsp := (Entails.of_eq (swap (fun e => all fun j => spent c (dk e j)) (ev c)).symm) $$ [Hsp Hsp']
  · isplitl [Hsp]; · iexact Hsp
    iexact Hsp'
  icases Hsp with ⟨Hspw, HspO⟩
  unfold WP
  rw [wp_pure]
  imodintro
  isplitl [Hspo Hspx Hspw HspO Hspf]
  · isplitl [Hspo]; · iexact Hspo
    isplitl [Hspx]; · iexact Hspx
    isplitl [Hspw]; · iexact Hspw
    isplitl [HspO]; · iexact HspO
    iexact Hspf
  isplitl [HO]; · iexact HO
  iframe

/-- The tail: sends, own products, relays, tiles, result, last waits. -/
theorem tail_spec : iprop(ctx X W K c ∗ tailIn X W c) ⊢ WP c (tail c (k0_pay58 (W c))) fun _ => tailOut X W c := by
  cases h : ev c
  · rw [tail_odd c _ h]
    exact tail_run X W K c false h _ _ (sendO_all X W K c h) (oddRest_spec X W K c h)
  · rw [tail_even c _ h]
    exact tail_run X W K c true h _ _ (sendW_all X W K c h) (evenRest_spec X W K c h)

/-! ## The whole body -/

/-- The cells, kind by kind. -/
theorem kinds (Φ : SK → sProp 𝕄) : (all Φ) = iprop(Φ kW ∗ (all fun b => Φ (kIn b)) ∗ (all fun b => Φ (kOut b)) ∗ (all fun j => Φ (kXs j))
    ∗ (all fun j => Φ (kWo j)) ∗ (all fun j => Φ (kO j)) ∗ all fun j => Φ (kFw j)) := by
  unfold all
  rw [bigSep_univ_sum, bigSep_univ_sum, bigSep_univ_sum, bigSep_univ_sum, bigSep_univ_sum, bigSep_univ_sum, show (Finset.univ : Finset Unit) = {()} from rfl, bigSep_singleton]
  rfl

/-- The rights to what a device pays: its two signals, its own transfers, the chunks it lands on its partners. -/
def duties : sProp 𝕄 :=
  iprop((dutyTok ER (barCell (xp c)) 0 0 ∗ dutyTok ER (barCell (yp c)) 0 1)
    ∗ (lander c kW ∗ (all fun b => lander c (kIn b)) ∗ (all fun b => lander c (kOut b)) ∗ (all fun j => lander c (kXs j)) ∗ all fun j => lander c (kFw j))
    ∗ (all fun j => lander (xp c) (dk (ev c) j)) ∗ all fun j => lander (yp c) (dk (ev c) j))
/-- A device's own places in the protocol, and its duties. -/
def seat : sProp 𝕄 := iprop(atPos ER (barCell c) 0 ∅ 0 ∗ (all fun k => atPos ER (dcell c k) 0 ∅ 0) ∗ duties c)
/-- The credit others owe it. -/
def dues : sProp 𝕄 :=
  iprop(cred (tallyAt (barCell c) () 2) ∗ (all fun j => cred (tallyAt (dcell c (kWo j)) () (amt (kWo j)))) ∗ all fun j => cred (tallyAt (dcell c (kO j)) () (amt (kO j))))
/-- The kernel's own buffers. -/
def scratch : sProp 𝕄 :=
  iprop(ptAny cc0_scratch0 c Finset.univ ∗ ptAny cc0_scratch1 c Finset.univ ∗ ptAny cc0_scratch2 c Finset.univ ∗ ptAny cc0_scratch3 c Finset.univ
    ∗ ptAny cc0_scratch4 c Finset.univ ∗ ptAny cc0_scratch5 c Finset.univ ∗ ptAny cc0_scratch6 c Finset.univ ∗ ptAny cc0_scratch7 c Finset.univ)
/-- What the body starts with. -/
def bodyIn : sProp 𝕄 :=
  iprop(seat c ∗ dues c ∗ owesX c (O₀ c) ∗ pt main_arg1 c Finset.univ fullShare (W c) ∗ pt main_v1 c Finset.univ fullShare (X c)
    ∗ ptAny main_v2 c Finset.univ ∗ scratch c)
/-- What the body ends with. -/
def bodyOut : sProp 𝕄 :=
  iprop(semVal (barCell c) 0 ∗ (all fun k => semVal (dcell c k) 0) ∗ owesX c 0 ∗ pt main_arg1 c Finset.univ fullShare (W c)
    ∗ pt main_v1 c Finset.univ fullShare (X c) ∗ pt main_v2 c Finset.univ fullShare (gR X W c) ∗ scratch c)

/-- The seat and the dues, by the part of the body that uses them. -/
theorem seated : iprop(seat c ∗ dues c) ⊢ iprop((shaking c ∗ idle c kW ∗ all fun b => idle c (kIn b)) ∗ rights (F := F) c) := by
  unfold seat duties dues rights shaking
  rw [kinds]
  unfold idle armed
  simp only [all_sep]
  unfold lander
  iintro ⟨⟨Hb, ⟨Hw, Hi, Ho, Hx, Hwo, Hoo, Hf⟩, ⟨Htx, Hty⟩, ⟨Htw, Hti, Hto, Htxs, Htf⟩, Hlx, Hly⟩, Hcb, Hcw, Hco⟩
  isplitl [Hb Htx Hty Hcb Hw Htw Hi Hti]
  · isplitl [Hb Htx Hty Hcb]
    · iframe
    isplitl [Hw Htw]
    · iframe
    isplitl [Hi]; · iexact Hi
    iexact Hti
  isplitl [Hx Htxs]
  · isplitl [Hx]; · iexact Hx
    iexact Htxs
  isplitl [Hf Htf]
  · isplitl [Hf]; · iexact Hf
    iexact Htf
  isplitl [Ho Hto]
  · isplitl [Ho]; · iexact Ho
    iexact Hto
  isplitl [Hlx]; · iexact Hlx
  isplitl [Hly]; · iexact Hly
  isplitl [Hwo Hcw]
  · isplitl [Hwo]; · iexact Hwo
    iexact Hcw
  isplitl [Hoo]; · iexact Hoo
  iexact Hco

/-- All the device's cells close at zero. -/
theorem close_all : iprop(ctx X W K c ∗ atPos ER (barCell c) (0 + 1) ∅ 0 ∗ all fun k => spent c k)
    ⊢ (|={Set.univ}=> (semVal (barCell c) 0 ∗ all fun k => semVal (dcell c k) 0) : sProp 𝕄) := by
  have hk : iprop(ctx X W K c ∗ all fun k => spent c k) ⊢ (|={Set.univ}=> all fun k => semVal (dcell c k) 0 : sProp 𝕄) :=
    (bigSep_with_persistent (Ψ := fun k => iprop(|={Set.univ}=> semVal (dcell c k) 0)) fun k _ =>
      (sep_mono_left (ctx_inv X W K c (dma_mem c k))).trans (close X W _ _)).trans (bigSep_fupd _ _)
  iintro ⟨#Hc, Hb, Hs⟩
  imod (close X W (K (barCell c)) (barCell c)) $$ [Hb] with Hb
  · isplitr; · iapply (ctx_inv X W K c (bar_mem c)); iexact Hc
    iexact Hb
  imod hk $$ [Hs] with Hs
  · isplitr; · iexact Hc
    iexact Hs
  imodintro
  isplitl [Hb]; · iexact Hb
  iexact Hs

/-- The body of one device: from its seat to the result, every semaphore back at zero. -/
theorem body_spec : iprop(ctx X W K c ∗ bodyIn X W c) ⊢ WP c body fun _ => bodyOut X W c := by
  rw [body_tail]
  refine BIBase.Entails.trans ?_ (wp_fupd _ _ _ _ _)
  unfold bodyIn bodyOut scratch
  iintro ⟨#Hc, Hseat, Hdues, HO, Hmw, Hmx, Hr, Hw, Hx, Hacc, Hb, Hsw, Hlw, Hso, Hlo⟩
  ihave H := (seated (F := F) c) $$ [Hseat Hdues]
  · isplitl [Hseat]; · iexact Hseat
    iexact Hdues
  icases H with ⟨⟨Hsh, Hiw, Hix⟩, Hrt⟩
  iapply (andThen c (head_spec X W K c) _ _) $$ [Hsh Hiw Hix HO Hmw Hmx Hw Hx Hsw Hlw Hso Hlo]
  · isplitr; · iexact Hc
    unfold headIn
    iframe
  iintro %x ⟨%hx, Hout⟩
  subst hx
  unfold headOut
  icases Hout with ⟨⟨Hab, Hspw, Hspi, Hw, Hmw, Hmx⟩, Hx, Hsw, Hso, Hlx, Hly, HO⟩
  ihave Hmx := (Entails.of_eq (pt_parts main_v1 c fibX fullShare (X c)).symm) $$ Hmx
  iapply (atLast c (tail_spec X W K c) _) $$ [Hrt Hacc Hb Hr Hx Hsw Hso Hlx Hly HO]
  · isplitr; · iexact Hc
    unfold tailIn
    iframe
  iintro %a Hout
  unfold tailOut
  icases Hout with ⟨⟨Hspo, Hspx, Hspwo, HspO, Hspf⟩, HO, Hr, Hx, Hacc, Hb, Hsw, Hlw, Hso, Hlo⟩
  ihave Hsp := (Entails.of_eq (kinds (fun k => spent (F := F) c k)).symm) $$ [Hspw Hspi Hspo Hspx Hspwo HspO Hspf]
  · isplitl [Hspw]; · iexact Hspw
    isplitl [Hspi]; · iexact Hspi
    isplitl [Hspo]; · iexact Hspo
    isplitl [Hspx]; · iexact Hspx
    isplitl [Hspwo]; · iexact Hspwo
    isplitl [HspO]; · iexact HspO
    iexact Hspf
  imod (close_all X W K c) $$ [Hab Hsp] with ⟨Hb0, Hs0⟩
  · isplitr; · iexact Hc
    isplitl [Hab]; · iexact Hab
    iexact Hsp
  ihave Hx := (Entails.of_eq (pt_parts cc0_scratch1 c fibX fullShare (X c)).symm) $$ Hx
  imodintro
  isplitl [Hb0]; · iexact Hb0
  isplitl [Hs0]; · iexact Hs0
  isplitl [HO]; · iexact HO
  isplitl [Hmw]; · iexact Hmw
  isplitl [Hmx]; · iexact Hmx
  isplitl [Hr]; · iexact Hr
  isplitl [Hw]; · iexists _; iexact Hw
  isplitl [Hx]; · iexists _; iexact Hx
  isplitl [Hacc]; · iexists _; iexact Hacc
  isplitl [Hb]; · iexists _; iexact Hb
  isplitl [Hsw]; · iexists _; iexact Hsw
  isplitl [Hlw]; · iexists _; iexact Hlw
  isplitl [Hso]; · iexists _; iexact Hso
  iexists _; iexact Hlo

end

end Cert.KernelIdeal.Gen
-- ==== Proof.Start.lean ====
/-
  What the launch gives each device: the rights to its duties, dealt from all the cells' rights, and the credit for
  what its partners owe it.
-/
module

public import proofs.«01_k».proof.Proof.Body

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credit -/

/-- Different devices or kinds have different semaphores. -/
theorem dcell_inj {c t : Dev nD} {k k' : SK} : dcell c k = dcell t k' ↔ c = t ∧ k = k' :=
  ⟨fun h => Prod.mk.inj (dmaEmb.injective (a₁ := (c, k)) (a₂ := (t, k')) h), fun ⟨h, h'⟩ => by rw [h, h']⟩
/-- Different devices have different barriers. -/
theorem barCell_inj {c t : Dev nD} : barCell c = barCell t ↔ c = t := ⟨fun h => barEmb.injective h, fun h => by rw [h]⟩
/-- The landing cells of different parities or chunks are different. -/
theorem dk_inj : ∀ {e e' : Bool} {j j' : Fin 8}, dk e j = dk e' j' ↔ e = e' ∧ j = j' := by decide +kernel
/-- A barrier is no DMA semaphore. -/
theorem bar_ne_dma (c t : Dev nD) (k : SK) : barCell c ≠ dcell t k := fun h => nomatch congrArg Prod.snd h

/-- No chunk is owed to a barrier. -/
theorem remN_bar (t : Dev nD) (e : Bool) (c : Dev nD) : remN t e 0 (barCell c) () = 0 := by
  by_contra h
  obtain ⟨j, hj⟩ := remN_pos (Nat.pos_of_ne_zero h)
  exact bar_ne_dma _ _ _ hj
/-- How much of a chunk is owed to a landing cell. -/
theorem remN_dma (t : Dev nD) (e : Bool) (c : Dev nD) (e' : Bool) (j : Fin 8) :
    remN t e 0 (dcell c (dk e' j)) () = if c = t ∧ e' = e then NC else 0 := by
  unfold remN
  rw [Finset.sum_apply, Finsupp.finsetSum_apply, Finset.filter_true_of_mem fun i _ => Nat.zero_le _]
  simp only [tallyAt_apply, dcell_inj, dk_inj, and_true]
  by_cases h : c = t ∧ e' = e
  · rw [if_pos h]
    simp only [h.1, h.2, true_and]
    rw [Finset.sum_ite_eq, if_pos (Finset.mem_univ _)]
  · rw [if_neg h]
    exact Finset.sum_eq_zero fun i _ => if_neg fun hi => h ⟨hi.1, hi.2.1⟩

/-- What device `d` owes a barrier cell. -/
theorem owed_bar (d c : Dev nD) : O₀ d (barCell c) () = (if d = yp c then 1 else 0) + if d = xp c then 1 else 0 := by
  have hx : c = xp d ↔ d = xp c := ⟨fun h => by rw [h, xp_xp], fun h => by rw [h, xp_xp]⟩
  have hy : c = yp d ↔ d = yp c := ⟨fun h => by rw [h, yp_yp], fun h => by rw [h, yp_yp]⟩
  unfold O₀
  simp only [Pi.add_apply, Finsupp.add_apply, remN_bar, tallyAt_apply, barCell_inj, hx, hy, and_true, zero_add]
/-- What device `d` owes the landing cells for chunks of parity `e`. -/
theorem owed_dma (d c : Dev nD) (e : Bool) (j : Fin 8) :
    O₀ d (dcell c (dk e j)) () = if d = (if e = ev c then xp c else yp c) then NC else 0 := by
  have hx : c = xp d ∧ e = ev d ↔ d = xp c ∧ e = ev c :=
    ⟨fun ⟨h, h'⟩ => by rw [h, xp_xp, ev_xp]; exact ⟨rfl, h'⟩, fun ⟨h, h'⟩ => by rw [h, xp_xp, ev_xp]; exact ⟨rfl, h'⟩⟩
  have hy : c = yp d ∧ e = ev d ↔ d = yp c ∧ e ≠ ev c := by
    constructor
    · rintro ⟨h, h'⟩
      rw [h, yp_yp, ev_yp, h']
      exact ⟨rfl, by cases ev d <;> decide⟩
    · rintro ⟨h, h'⟩
      rw [h, yp_yp, ev_yp]
      exact ⟨rfl, by revert h'; cases e <;> cases ev c <;> decide⟩
  unfold O₀
  simp only [Pi.add_apply, Finsupp.add_apply, remN_dma, hx, hy, tallyAt_apply, (bar_ne_dma _ _ _).symm, false_and, if_false, add_zero]
  by_cases h : e = ev c
  · simp only [h, and_true, ne_eq, not_true_eq_false, and_false, if_false, add_zero, if_true]
  · simp only [h, and_false, ne_eq, not_false_eq_true, and_true, if_false, zero_add]

/-- A barrier's launch credit is two. -/
theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
/-- A landing cell's launch credit is one chunk. -/
theorem launch_dma (c : Dev nD) (e : Bool) (j : Fin 8) :
    tallyOn (dcell c (dk e j)) (launchCredit (Pipeline.owing O₀) 0 (dcell c (dk e j)))
      = (tallyAt (dcell c (dk e j)) () (amt (dk e j)) : CellTallies nD τ sig Unit) := by
  unfold tallyAt
  refine congrArg _ (Finsupp.ext fun u => ?_)
  rw [Pipeline.launchCredit_owing, Finsupp.single_eq_same, Finset.sum_congr rfl fun d _ => owed_dma d c e j,
    Finset.sum_ite_eq' Finset.univ _ fun _ => NC, if_pos (Finset.mem_univ _), amt_dk]

/-- A device's launch credit covers its dues. -/
theorem credited (c : Dev nD) : (Pipeline.launchCred O₀ c : sProp 𝕄) ⊢ dues c := by
  have hinj : Function.Injective fun k : SK => (SemLoc.dma (semOf k) : SemLoc sig) := fun k k' h => semOf_bij.1 (SemLoc.dma.inj h)
  unfold Pipeline.launchCred dues
  rw [bigSep_univ_at _ (SemLoc.reg barSem), launch_bar]
  refine sep_mono_right ?_
  refine (bigSep_subset (t := Finset.univ.map ⟨_, hinj⟩) fun s hs => ?_).trans ?_
  · obtain ⟨k, -, rfl⟩ := Finset.mem_map.mp hs
    exact Finset.mem_erase.mpr ⟨(fun h => nomatch h), Finset.mem_univ _⟩
  rw [bigSep_map]
  refine (Entails.of_eq (kinds _)).trans ?_
  iintro ⟨-, -, -, -, Hw, Ho, -⟩
  isplitl [Hw]
  · iapply (Entails.of_eq (bigSep_congr fun j _ => by exact congrArg cred (launch_dma c true j))) $$ Hw
  · iapply (Entails.of_eq (bigSep_congr fun j _ => by exact congrArg cred (launch_dma c false j))) $$ Ho

/-! ## The rights -/

/-- Every cell's duties. -/
def allToks : Finset (GSem nD τ sig × ℕ × Fin 2) :=
  Finset.univ.map ⟨fun ck : Dev nD × (Fin 2 ⊕ SK) => Sum.elim (fun d => (barCell ck.1, 0, d)) (fun k => (dcell ck.1 k, 0, 0)) ck.2, by
    rintro ⟨c, d | k⟩ ⟨c', d' | k'⟩ h
    · obtain ⟨h₁, h₂⟩ := Prod.mk.inj h
      exact Prod.ext (barCell_inj.mp h₁) (congrArg Sum.inl (Prod.mk.inj h₂).2)
    · exact absurd (Prod.mk.inj h).1 (bar_ne_dma _ _ _)
    · exact absurd (Prod.mk.inj h).1 (bar_ne_dma _ _ _).symm
    · obtain ⟨h₁, h₂⟩ := dcell_inj.mp (Prod.mk.inj h).1
      exact Prod.ext h₁ (congrArg Sum.inr h₂)⟩

/-- All tokens, device by device. -/
theorem allToks_eq : bigSep allToks (fun x => (dutyTok ER x.1 x.2.1 x.2.2 : sProp 𝕄))
    = all fun c => iprop((dutyTok ER (barCell c) 0 0 ∗ dutyTok ER (barCell c) 0 1) ∗ all fun k => lander c k) := by
  unfold allToks
  rw [bigSep_map, bigSep_univ_prod]
  refine bigSep_congr fun c _ => ?_
  rw [bigSep_univ_sum, BI.bigSep_fin_two]
  rfl

/-- A family over the devices, each taking its partner's. -/
theorem around (e : Dev nD ≃ Dev nD) (Φ : Dev nD → sProp 𝕄) : (all Φ) = all fun c => Φ (e c) := bigSep_univ_equiv e Φ

/-- A device's own landing cells, by the parity of the sender. -/
theorem landers (c : Dev nD) : iprop((all fun j => lander (F := F) c (kWo j)) ∗ all fun j => lander c (kO j))
    = iprop((all fun j => lander c (dk (ev c) j)) ∗ all fun j => lander c (dk (!ev c) j)) :=
  swap (fun e => all fun j => lander c (dk e j)) (ev c)

/-- All cells' rights, dealt to the devices that pay. -/
theorem dealt : (all fun c => iprop((dutyTok ER (barCell c) 0 0 ∗ dutyTok ER (barCell c) 0 1) ∗ all fun k => lander (F := F) c k))
    ⊢ all fun c => duties c := by
  have hx : (fun c => all fun j => lander (F := F) (xp c) (dk (ev (xp c)) j)) = fun c => all fun j => lander (xp c) (dk (ev c) j) := by
    funext c; rw [ev_xp]
  have hy : (fun c => all fun j => lander (F := F) (yp c) (dk (!ev (yp c)) j)) = fun c => all fun j => lander (yp c) (dk (ev c) j) := by
    funext c; rw [ev_yp, Bool.not_not]
  have h (c : Dev nD) : iprop((dutyTok ER (barCell c) 0 0 ∗ dutyTok ER (barCell c) 0 1) ∗ all fun k => lander (F := F) c k)
      ⊢ iprop(dutyTok ER (barCell c) 0 0 ∗ dutyTok ER (barCell c) 0 1
        ∗ (lander c kW ∗ (all fun b => lander c (kIn b)) ∗ (all fun b => lander c (kOut b)) ∗ (all fun j => lander c (kXs j)) ∗ all fun j => lander c (kFw j))
        ∗ (all fun j => lander c (dk (ev c) j)) ∗ all fun j => lander c (dk (!ev c) j)) := by
    rw [kinds]
    iintro ⟨⟨H0, H1⟩, Hw, Hi, Ho, Hx, Hwo, Hoo, Hf⟩
    ihave Hl := (Entails.of_eq (landers (F := F) c)) $$ [Hwo Hoo]
    · isplitl [Hwo]; · iexact Hwo
      iexact Hoo
    icases Hl with ⟨Hl, Hl'⟩
    isplitl [H0]; · iexact H0
    isplitl [H1]; · iexact H1
    isplitl [Hw Hi Ho Hx Hf]
    · isplitl [Hw]; · iexact Hw
      isplitl [Hi]; · iexact Hi
      isplitl [Ho]; · iexact Ho
      isplitl [Hx]; · iexact Hx
      iexact Hf
    isplitl [Hl]; · iexact Hl
    iexact Hl'
  refine BIBase.Entails.trans (bigSep_mono fun c _ => h c) (BIBase.Entails.of_eq ?_)
  unfold duties
  show (all _) = all _
  simp only [all_sep]
  rw [around xpE (fun c => dutyTok ER (barCell c) 0 0), around ypE (fun c => dutyTok ER (barCell c) 0 1),
    around xpE (fun c => all fun j => lander (F := F) c (dk (ev c) j)), around ypE (fun c => all fun j => lander (F := F) c (dk (!ev c) j))]
  rw [show (fun c => all fun j => lander (F := F) (xpE c) (dk (ev (xpE c)) j)) = _ from hx,
    show (fun c => all fun j => lander (F := F) (ypE c) (dk (!ev (ypE c)) j)) = _ from hy]
  exact equiv_iff.mp ⟨BI.sep_assoc', BI.sep_assoc⟩

end Cert.KernelIdeal.Gen

end
-- ==== Proof.Launch.lean ====
/-
  The kernel from launch to end: the transpose of the host, the one region, and what every final state holds.
-/
module

public import proofs.«01_k».proof.Proof.Start
public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096
set_option maxRecDepth 20000

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## Contents -/

/-- A device's buffers at launch, when the region is entered, and when it is left. -/
abbrev V₀ (c : Dev nD) : Valuation τ sig (Elt F) := fun b => m ((c : Dev nD), b)
/-- The buffers after the host's transposition. -/
abbrev V₁ (c : Dev nD) : Valuation τ sig (Elt F) := StableHlo.after hostOps0 (V₀ m c)
/-- The first operand of the call. -/
abbrev Xm (c : Dev nD) : Vec F S4x8x64x512 .f32 := V₁ m c main_v1
/-- The second operand of the call. -/
abbrev Wm (c : Dev nD) : Vec F S512x1024 .f32 := V₁ m c main_arg1
/-- The buffers after the call. -/
abbrev V₂ (c : Dev nD) : Valuation τ sig (Elt F) := Function.update (V₁ m c) (Proc.devRef .tc main_v2) (gR (Xm m) (Wm m) c)

/-- The result after the call. -/
theorem V₂_out (c : Dev nD) : V₂ m c main_v2 = gR (Xm m) (Wm m) c := Function.update_self ..
/-- No other buffer is changed by the call. -/
theorem V₂_ne (c : Dev nD) {b : Ref sig .tc} (h : Proc.devRef (τ := τ) .tc b ≠ Proc.devRef .tc main_v2) : V₂ m c b = V₁ m c b := Function.update_of_ne h ..
/-- The transposition leaves the first argument. -/
theorem V₁_arg0 (c : Dev nD) : V₁ m c main_arg0 = m ((c : Thread nD τ).loc main_arg0) := by
  show StableHlo.after hostOps0 (V₀ m c) (Proc.devRef .tc main_arg0) = _
  rw [StableHlo.after_cons, StableHlo.after_nil, StableHlo.unary_result_ne _ _ _ _ _ _ (by decide)]
/-- The transposition leaves the second argument. -/
theorem V₁_arg1 (c : Dev nD) : V₁ m c main_arg1 = m ((c : Thread nD τ).loc main_arg1) := by
  show StableHlo.after hostOps0 (V₀ m c) (Proc.devRef .tc main_arg1) = _
  rw [StableHlo.after_cons, StableHlo.after_nil, StableHlo.unary_result_ne _ _ _ _ _ _ (by decide)]

/-! ## The buffers and semaphores of a thread -/

/-- The buffers that belong to no scope. -/
def bufs : Finset (DevRef τ sig) := (StableHlo.tcRefs τ sig).filter fun b => ¬ b.isScoped

/-- The unscoped buffers as those the host operations hold. -/
theorem unscopedBufs_held (c : Dev nD) (V : Valuation τ sig (Elt F)) :
    (unscopedBufs c (fun b => V b) : sProp 𝕄) = StableHlo.held (c : Thread nD τ) bufs V := by
  unfold unscopedBufs StableHlo.held bufs StableHlo.tcRefs
  rw [Finset.filter_map, BI.bigSep_map]
  rfl
/-- The unscoped buffers one by one. -/
theorem bufs_eq (c : Dev nD) (V : Valuation τ sig (Elt F)) : (StableHlo.held (c : Thread nD τ) bufs V : sProp 𝕄)
    = iprop(pt main_arg0 c Finset.univ fullShare (V main_arg0) ∗ pt main_arg1 c Finset.univ fullShare (V main_arg1)
      ∗ pt main_v1 c Finset.univ fullShare (V main_v1) ∗ pt main_v2 c Finset.univ fullShare (V main_v2)) := by
  unfold StableHlo.held
  rw [bigSep_eq_bigSepL_of_eq [Proc.devRef .tc main_arg0, Proc.devRef .tc main_arg1, Proc.devRef .tc main_v1, Proc.devRef .tc main_v2] (by decide) (by decide)]
  rfl
/-- The unscoped semaphore is the barrier, at zero. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

/-- The kernel's own semaphores. -/
abbrev osem (k : SK) : SemLoc sig := .dma (semOf k)
/-- The call's own semaphores are all of the DMA semaphores. -/
theorem ownSems : Pipeline.OwnSemFacts (Pipeline.pin (pcfgs (F := F)) (fun p => (cfgs p).toPCfg_adm) 0).spec osem where
  isScoped := by decide +kernel
  inj k k' h := semOf_bij.1 (SemLoc.dma.inj h)
  disj k w := w.elim0
/-- The own semaphores at zero, kind by kind. -/
theorem ownSems0_eq (c : Dev nD) : (Pipeline.ownSems0 osem c : sProp 𝕄) = all fun k => semVal (dcell c k) 0 := rfl
/-- The scratch buffers one by one. -/
theorem scopedRest_eq (c : Dev nD) :
    (Pipeline.scopedRest (Ix := Unit) (Name := ℕ) (U := UU) (Lvl := ℕ) (Val := Elt F) (Pipeline.pin (pcfgs (F := F)) (fun p => (cfgs p).toPCfg_adm) 0).spec c : sProp 𝕄)
      = scratch c := scopedRest0_eq c

/-! ## The region -/

/-- A device before its cells are open. -/
def dormant (c : Dev nD) : sProp 𝕄 := iprop(atPos ER (barCell c) 0 ∅ 0 ∗ (all fun k => openTok ER (dcell c k)) ∗ duties c)
/-- What enters the region, before and after the opening of the cells, and what leaves it. -/
def before (c : Dev nD) : sProp 𝕄 := iprop((∃ K, pool (Xm m) (Wm m) K ∗ dormant c) ∗ dues c)
/-- What the body works with once its cells are open. -/
def opened (c : Dev nD) : sProp 𝕄 := iprop((∃ K, ctx (Xm m) (Wm m) K c ∗ seat c) ∗ dues c)
/-- What is left for the end: the barrier at zero. -/
def after (c : Dev nD) : sProp 𝕄 := semVal (barCell c) 0

/-- A device opens the cells of its own semaphores. -/
theorem opening (c : Dev nD) : iprop(before m c ∗ Pipeline.ownSems0 osem c ∗ levAts L lv) ⊢ (|={Set.univ}=> opened m c : sProp 𝕄) := by
  have hk (K : GSem nD τ sig → ℕ) : iprop(pool (Xm m) (Wm m) K ∗ all fun k => iprop(openTok ER (dcell c k) ∗ semVal (dcell c k) 0))
      ⊢ (|={Set.univ}=> all fun k => iprop(atPos ER (dcell c k) 0 ∅ 0 ∗ reached ER (dcell c k) 0) : sProp 𝕄) :=
    (bigSep_with_persistent (Ψ := fun k => iprop(|={Set.univ}=> (atPos ER (dcell c k) 0 ∅ 0 ∗ reached ER (dcell c k) 0))) fun k _ =>
      (sep_mono_left (pool_inv (Xm m) (Wm m) K (dma_mem c k))).trans
        (Rounds.cell_open ER (Rd (Xm m) (Wm m)) (g := dcell c k) (Set.mem_univ (K (dcell c k))))).trans (bigSep_fupd _ _)
  rw [ownSems0_eq]
  unfold before opened dormant seat ctx
  iintro ⟨⟨⟨%K, #Hp, Hb, Ho, Hd⟩, Hc⟩, Hs, -⟩
  ihave Hos := (Entails.of_eq (all_sep (fun k => openTok ER (dcell c k)) (fun k => semVal (dcell c k) 0)).symm) $$ [Ho Hs]
  · isplitl [Ho]; · iexact Ho
    iexact Hs
  imod (hk K) $$ [Hos] with Ha
  · isplitr; · iexact Hp
    iexact Hos
  ihave Ha := (Entails.of_eq (all_sep (fun k => atPos ER (dcell c k) 0 ∅ 0) (fun k => reached ER (dcell c k) 0))) $$ Ha
  icases Ha with ⟨Ha, #Hr⟩
  imodintro
  isplitr [Hc]
  · iexists K
    isplitr
    · isplitr; · iexact Hp
      iexact Hr
    isplitl [Hb]; · iexact Hb
    isplitl [Ha]; · iexact Ha
    iexact Hd
  iexact Hc

/-- The region's one point: it owes `O₀` before, nothing after. -/
def dat (c : Dev nD) : Dat τ (Elt F) Unit ℕ UU ℕ cfg0 c where
  A w := w.elim0
  after w := w.elim0
  Φ t := if t.val = 0 then iprop(opened m c ∗ StableHlo.held (c : Thread nD τ) bufs (V₁ m c) ∗ scratch c ∗ ∃ r, prngReg c r)
    else iprop(after c ∗ Pipeline.ownSems0 osem c ∗ StableHlo.held (c : Thread nD τ) bufs (V₂ m c) ∗ scratch c ∗ ∃ r, prngReg c r)
  q w := w.elim0
  owed t := if t.val = 0 then O₀ c else 0

abbrev adm : (p : Fin 1) → (pcfgs (F := F) p).Adm := fun p => (cfgs p).toPCfg_adm
/-- The data of the call. -/
def dats : (p : Fin 1) → (c : Dev nD) → Dat τ (Elt F) Unit ℕ UU ℕ (Pipeline.pin (pcfgs (F := F)) adm p) c
  | 0 => dat m

/-- What is owed when the body starts. -/
theorem owed_first (c : Dev nD) : (dat (F := F) m c).owed t0_0.castSucc = O₀ c := by
  show (if (t0_0.castSucc : Fin (cfg0.N + 1)).val = 0 then O₀ c else 0) = O₀ c; exact if_pos rfl
/-- What is owed when the call starts. -/
theorem owed_zero (c : Dev nD) : (dats (F := F) m 0 c).owed 0 = O₀ c := by
  show (if (0 : Fin (cfg0.N + 1)).val = 0 then O₀ c else 0) = O₀ c; exact if_pos rfl
/-- Nothing is owed at the end. -/
theorem owed_last (c : Dev nD) : (dats (F := F) m 0 c).owed (Fin.last _) = 0 := by
  show (if (Fin.last cfg0.N).val = 0 then O₀ c else 0) = 0
  rw [Fin.val_last, if_neg (by rw [show cfg0.N = 1 from N_0]; decide)]

/-- What the call's record says is owed, read out. -/
theorem owesAt_out (c : Dev nD) (t : Fin (cfg0.N + 1)) (O : CellTallies nD τ sig Unit) (h : (dat (F := F) m c).owed t = O) :
    ((dat m c).owesAt () t : sProp 𝕄) ⊢ owesX c O := by
  unfold Dat.owesAt Pipeline.owesWithin owesX
  rw [h]
  iintro ⟨%Wd, -, H⟩; iexists Wd; iexact H
/-- What is owed, put in the call's record. -/
theorem owesAt_in (c : Dev nD) (t : Fin (cfg0.N + 1)) (O : CellTallies nD τ sig Unit) (h : (dat (F := F) m c).owed t = O) :
    owesX c O ⊢ ((dat m c).owesAt () t : sProp 𝕄) := by
  unfold Dat.owesAt Pipeline.owesWithin Dat.bound owesX
  rw [h]
  iintro ⟨%Wd, H⟩; iexists Wd; isplitr
  · ipureintro; exact fun _ _ => Or.inl trivial
  iexact H

/-- The body does what the call asks of it. -/
theorem body_ok (c : Dev nD) : BodyObligation (dat (F := F) m c) defs₀ 𝒱₀ () Set.univ := fun t => by
  have hW {M : Type} [URA M] (Φ : Fin 0 → sProp M) : bigSep Finset.univ Φ = (BI.emp : sProp M) := bigSep_univ_eq_bigSepL [] (by decide) (by decide) Φ
  obtain rfl := fin_N0 t
  rw [hW, hW]
  rw [show (dat m c).Φ t0_0.castSucc = iprop(opened m c ∗ StableHlo.held (c : Thread nD τ) bufs (V₁ m c) ∗ scratch c ∗ ∃ r, prngReg c r) from rfl,
    show (dat m c).Φ t0_0.succ = iprop(after c ∗ Pipeline.ownSems0 osem c ∗ StableHlo.held (c : Thread nD τ) bufs (V₂ m c) ∗ scratch c ∗ ∃ r, prngReg c r) from rfl,
    bufs_eq, bufs_eq, ownSems0_eq, V₂_out,
    V₂_ne m c (b := main_arg0) (by decide), V₂_ne m c (b := main_arg1) (by decide), V₂_ne m c (b := main_v1) (by decide)]
  show _ ⊢ WP c (bodyAt0 (F := F) t0_0) _
  rw [body_eq]
  unfold opened after
  iintro ⟨⟨⟨⟨%K, #Hc, Hseat⟩, Hdues⟩, ⟨Ha, Hw, Hx, Hr⟩, Hs, Hp⟩, HO, -⟩
  ihave HO := (owesAt_out m c _ _ (owed_first m c)) $$ HO
  iapply (atLast c (body_spec (Xm m) (Wm m) K c) _) $$ [Hseat Hdues HO Hw Hx Hr Hs]
  · isplitr; · iexact Hc
    unfold bodyIn
    isplitl [Hseat]; · iexact Hseat
    isplitl [Hdues]; · iexact Hdues
    isplitl [HO]; · iexact HO
    isplitl [Hw]; · iexact Hw
    isplitl [Hx]; · iexact Hx
    isplitl [Hr]; · iexists _; iexact Hr
    iexact Hs
  iintro %a Hout
  unfold bodyOut
  icases Hout with ⟨Hb, Hk, HO, Hw, Hx, Hr, Hs⟩
  isplitr [HO]
  · isplitl [Hb]; · iexact Hb
    isplitl [Hk]; · iexact Hk
    isplitl [Ha Hw Hx Hr]
    · isplitl [Ha]; · iexact Ha
      isplitl [Hw]; · iexact Hw
      isplitl [Hx]; · iexact Hx
      iexact Hr
    isplitl [Hs]; · iexact Hs
    iexact Hp
  isplitl [HO]; · iapply (owesAt_in m c t0_0.succ 0 (owed_last m c)); iexact HO
  iempintro

/-! ## The segments -/

/-- What rides beside the buffers until the region: the rights and credit, the generator's register, what is owed. -/
def rides (c : Dev nD) : sProp 𝕄 := iprop(before m c ∗ (∃ r, prngReg c r) ∗ owesX c (O₀ c))

/-- The host operation uses the unscoped buffers only. -/
theorem ops_sub : ∀ op ∈ (hostOps0 : List (HloOp τ sig (Elt F))), op.bufs ⊆ bufs := fun op h => by
  obtain rfl := List.mem_singleton.mp h
  show ({Proc.devRef .tc main_arg0, Proc.devRef .tc main_v1} : Finset (DevRef τ sig)) ⊆ bufs
  decide
/-- The host operation allocates nothing. -/
theorem ops_fresh : ∀ op ∈ (hostOps0 : List (HloOp τ sig (Elt F))), op.fresh = ∅ := fun op h => by
  obtain rfl := List.mem_singleton.mp h
  rfl

/-- The host's part before the call. -/
def seg0 : Pipeline.HostSeg (Name := ℕ) (U := UU) (pcfgs (F := F)) defs₀ 𝒱₀ L lv :=
  Pipeline.HostSeg.ofOps _ _ _ _ _ bufs hostOps0 ops_sub ops_fresh (V₀ m) (rides m)

/-- The facts of the launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- What is owed at the start is owed to TensorCores, above level zero. -/
theorem owed_tc {c : Dev nD} {g : GSem nD τ sig} {u : Unit} (h : 0 < O₀ c g u) : g.1.2 = .tc ∧ 0 < lv g u := by
  unfold O₀ at h
  rw [Pi.add_apply, Finsupp.add_apply, Pi.add_apply, Finsupp.add_apply] at h
  have bar (t : Dev nD) (h : 0 < tallyAt (barCell t) () 1 g u) : g.1.2 = .tc ∧ 0 < lv g u := by
    rw [tallyAt_apply] at h
    split at h
    · next hg => rw [hg.1]; exact ⟨rfl, Nat.one_pos⟩
    · exact absurd h (Nat.lt_irrefl 0)
  rcases Nat.add_pos_iff_pos_or_pos.mp h with h | h
  · rcases Nat.add_pos_iff_pos_or_pos.mp h with h | h
    · have := above_xy c 0 0 g u h
      exact ⟨this.1, by omega⟩
    · exact bar _ h
  · exact bar _ h
/-- What is owed during the call is owed to TensorCores, above level zero. -/
theorem owed_cut (c : Dev nD) (t : Fin ((Pipeline.pin (pcfgs (F := F)) adm 0).N + 1)) (g : GSem nD τ sig) (i : Unit)
    (h : 0 < (dats (F := F) m 0 c).owed t g i) : i ∈ L g ∧ (0 : ℕ) < lv g i := by
  rw [show (dats (F := F) m 0 c).owed t = if t.val = 0 then O₀ c else 0 from rfl] at h
  split at h
  · refine ⟨?_, (owed_tc h).2⟩
    unfold L; rw [if_pos (owed_tc h).1]; exact Finset.mem_singleton_self _
  · exact absurd h (Nat.lt_irrefl 0)

/-- What the call is entered with. -/
theorem entering (c : Dev nD) : iprop(Pipeline.scopedRest (Pipeline.pin (pcfgs (F := F)) adm 0).spec c ∗ (∃ r, prngReg c r)
    ∗ StableHlo.held (c.tc : Thread nD τ) bufs (V₁ m c) ∗ opened m c) ⊢ (dats m 0 c).Φ 0 := by
  rw [show (dats m 0 c).Φ 0 = iprop(opened m c ∗ StableHlo.held (c : Thread nD τ) bufs (V₁ m c) ∗ scratch c ∗ ∃ r, prngReg c r) from rfl, scopedRest_eq]
  iintro ⟨Hs, Hp, Hh, Ho⟩
  isplitl [Ho]; · iexact Ho
  isplitl [Hh]; · iexact Hh
  isplitl [Hs]; · iexact Hs
  iexact Hp
/-- What the call is left with. -/
theorem leaving (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) bufs (V₂ m c) ∗ Pipeline.ownSems0 osem c ∗ after c) := by
  rw [show (dats m 0 c).Φ (Fin.last _) = iprop(after c ∗ Pipeline.ownSems0 osem c ∗ StableHlo.held (c : Thread nD τ) bufs (V₂ m c) ∗ scratch c ∗ ∃ r, prngReg c r) from rfl,
    scopedRest_eq]
  iintro ⟨Ha, Ho, Hh, Hs, Hp⟩
  isplitl [Hs]; · iexact Hs
  isplitl [Hp]; · iexact Hp
  isplitl [Hh]; · iexact Hh
  isplitl [Ho]; · iexact Ho
  iexact Ha

set_option backward.isDefEq.respectTransparency.types false in
/-- The call as a segment of the program. -/
def reg0 : Pipeline.RegionSeg (pcfgs (F := F)) adm (dats m) () defs₀ 𝒱₀ L lv 0 :=
  Pipeline.RegionSeg.ofTalk (pcfgs (F := F)) adm (dats m) () defs₀ 𝒱₀ L lv 0 osem (ownSems (F := F))
    bufs bufs (Finset.Subset.refl _) kit rfl (fun c => (body_ok m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (before m) after (opened m) after (opening m) (entering m) (leaving m)
    (fun c => by iintro H; imodintro; iexact H)
    (fun _ => 0)
    ⟨fun _ w => w.elim0, fun _ w => w.elim0, fun c t g i h => owed_cut m c t g i h⟩
    (fun _ => iprop(emp))
    (fun _ w => w.elim0) (fun _ w => w.elim0)

/-- No array goes through the pipeline's windows. -/
theorem held_none (c : Dev nD) (V : Valuation τ sig (Elt F)) :
    (StableHlo.held (c.tc : Thread nD τ) (Pipeline.arrRefs (τ := τ) (pcfgs (F := F) 0).spec) V : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  exact BI.bigSep_empty

/-- The host's part ends with what the call starts with. -/
theorem reg_pre (c : Dev nD) : iprop(StableHlo.held (c : Thread nD τ) bufs (V₁ m c) ∗ rides m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ before m c ∗ ∃ Wd, owes (c : Thread nD τ) (0 + O₀ c) Wd)
  rw [held_none, zero_add]
  unfold rides owesX
  iintro ⟨Hh, Hb, Hp, HO⟩
  isplitr; · iempintro
  isplitl [Hp]; · iexact Hp
  isplitl [Hh]
  · isplitl [Hh]; · iexact Hh
    iempintro
  isplitl [Hb]; · iexact Hb
  iexact HO
/-- The call ends with what the program ends with. -/
theorem reg_post (c : Dev nD) : (reg0 m).post c
    ⊢ iprop((StableHlo.held (c : Thread nD τ) bufs (V₂ m c) ∗ after c) ∗ ∃ Wd, owes (c : Thread nD τ) (0 : CellTallies nD τ sig Unit) Wd) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ after c ∗ ∃ Wd, owes (c : Thread nD τ) (0 : CellTallies nD τ sig Unit) Wd) ⊢ _
  rw [held_none]
  iintro ⟨-, -, ⟨Hh, -⟩, Hb, HO⟩
  isplitr [HO]
  · isplitl [Hh]; · iexact Hh
    iexact Hb
  iexact HO

/-- The kernel's two segments. -/
def segs : List (Pipeline.Seg (pcfgs (F := F)) adm (dats m) () defs₀ 𝒱₀ L lv) := [.host (seg0 m), .region (reg0 m)]

/-! ## The launch -/

/-- No barrier is among the DMA semaphores. -/
theorem cells_disjoint : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact bar_ne_dma c ck.1 ck.2 h.symm

/-- The launch element: no staging cells, and the protocol's. -/
def u₀ : UU :=
  (initOf (Pipeline.cells (Pipeline.pin (pcfgs (F := F)) adm) cellOf_inj) (Pipeline.launchToks (Pipeline.pin (pcfgs (F := F)) adm) cellOf_inj),
    launchOf barCells dmaCells allToks)
/-- The protocol's element, kept whole on device 0 until it is dealt. -/
def G (c : Dev nD) : sProp 𝕄 := if c = 0 then BI.own (ER (launchOf barCells dmaCells allToks)) else iprop(emp)
/-- The protocol's launch state, device by device. -/
theorem G_all : (all fun c => G (F := F) c) = BI.own (ER (launchOf barCells dmaCells allToks)) := by
  unfold all
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- What of a core's launch holdings is its own from the start. -/
def own₀ (c : Dev nD) : sProp 𝕄 :=
  iprop(StableHlo.held (c : Thread nD τ) bufs (V₀ m c) ∗ dues c ∗ owes (c : Thread nD τ) (O₀ c) ∅ ∗ ∃ r, prngReg c r)

/-- The shared facts and a device's own start are what its host part starts with. -/
theorem start_intro (κ : GSem nD τ sig → ℕ) (c : Dev nD) :
    iprop(pool (Xm m) (Wm m) κ ∗ (dormant c ∗ own₀ m c)) ⊢ iprop(StableHlo.held (c : Thread nD τ) bufs (V₀ m c) ∗ rides m c) := by
  unfold own₀ rides before owesX
  iintro ⟨#HR, Hd, Hh, Hc, HO, Hp⟩
  isplitl [Hh]; · iexact Hh
  isplitl [Hd Hc]
  · isplitl [Hd]
    · iexists κ
      isplitr; · iexact HR
      iexact Hd
    iexact Hc
  isplitl [Hp]; · iexact Hp
  iexists ∅; iexact HO

/-- The launch: every device gets its buffers, its cells and its tokens. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) bufs (V₀ m c) ∗ rides m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own₀ m c ∗ semVal (barCell c) 0 ∗ G c) : sProp 𝕄) := by
    rw [show unscopedBufs c (fun b => m ((c : Thread nD τ).loc b)) = StableHlo.held (c : Thread nD τ) bufs (V₀ m c) from unscopedBufs_held c (V₀ m c),
      unscopedSems0_eq]
    unfold own₀
    iintro ⟨Hh, Hus, HO, Hcr, Hp, HG⟩
    ihave Hc := (credited (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop((all fun c => own₀ m c) ∗ (all fun c => semVal (barCell c) 0) ∗ all fun c => G c) :=
    BIBase.Entails.trans (bigSep_mono fun c _ => hcore c) (BIBase.Entails.of_eq (by
      rw [← all_sep, ← all_sep]))
  have hsem : (all fun c : Dev nD => semVal (barCell c) 0) = bigSep barCells (fun g => (semVal g 0 : sProp 𝕄)) := (bigSep_map (s := Finset.univ) barEmb (Φ := fun g : GSem nD τ sig => (semVal g 0 : sProp 𝕄))).symm
  have hat : bigSep barCells (fun g => (atPos ER g 0 ∅ 0 : sProp 𝕄)) = all fun c : Dev nD => atPos ER (barCell c) 0 ∅ 0 :=
    bigSep_map (s := Finset.univ) barEmb (Φ := fun g : GSem nD τ sig => (atPos ER g 0 ∅ 0 : sProp 𝕄))
  have hopen : bigSep dmaCells (fun g => (openTok ER g : sProp 𝕄)) = all fun c : Dev nD => all fun k => openTok ER (dcell c k) := by
    rw [bigSep_map, bigSep_univ_prod]; rfl
  have hd : (all fun c : Dev nD => dormant (F := F) c)
      = iprop((all fun c : Dev nD => atPos ER (barCell c) 0 ∅ 0) ∗ (all fun c : Dev nD => all fun k => openTok ER (dcell c k)) ∗ all fun c => duties c) := by
    unfold dormant
    rw [all_sep, all_sep]
  iintro ⟨H, #Hlev⟩
  ihave H' := hall $$ H
  icases H' with ⟨HB, Hv, HG⟩
  ihave Hu := (Entails.of_eq (G_all (F := F))) $$ HG
  ihave Hv := (Entails.of_eq hsem) $$ Hv
  imod (Rounds.fund_launch ER (Rd (Xm m) (Wm m)) cells_disjoint (fun g _ h => h) allToks) $$ [Hv Hu] with ⟨%κ, -, #Hinv, #Hr, Hat, Hopen, Htok⟩
  · isplitl [Hv]; · iexact Hv
    iexact Hu
  ihave Hat := (Entails.of_eq hat) $$ Hat
  ihave Hopen := (Entails.of_eq hopen) $$ Hopen
  ihave Htok := (Entails.of_eq (allToks_eq (F := F))) $$ Htok
  ihave Htok := (dealt (F := F)) $$ Htok
  ihave Hd := (Entails.of_eq hd.symm) $$ [Hat Hopen Htok]
  · isplitl [Hat]; · iexact Hat
    isplitl [Hopen]; · iexact Hopen
    iexact Htok
  ihave Hall := (Entails.of_eq (all_sep (fun c => dormant (F := F) c) (fun c => own₀ m c)).symm) $$ [Hd HB]
  · isplitl [Hd]; · iexact Hd
    iexact HB
  imodintro
  iapply (bigSep_with_persistent (R := pool (Xm m) (Wm m) κ) (Φ := fun c => iprop(dormant c ∗ own₀ m c)) fun c _ => start_intro m κ c)
  isplitr
  · unfold pool levs
    isplitr; · iexact Hinv
    isplitr; · iexact Hr
    iexact Hlev
  iexact Hall

/-- The barrier is the only unscoped semaphore. -/
theorem unscoped_eq : ∀ sm : SemLoc sig, sm.isScoped .tc = false → sm = .reg barSem := by decide +kernel

set_option backward.isDefEq.respectTransparency.types false in
/-- THE RUN: from any memory with zero counters every weakly fair execution terminates, and every final state has the
    arguments unchanged, each device's result as computed from all devices' arguments, and every counter at zero. -/
theorem run_main : θ_run defs (onTc (τ := τ) (main (F := F))) ⟨m, fun _ => 0, ρ⟩
    (fun r => (∀ c : Dev nD, r.2.mem ((c : Thread nD τ).loc main_v2) = gR (Xm m) (Wm m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (dats m) () cellOf_inj EP defs₀ 𝒱₀ L lv m ρ main (segs m)
    (fun c Q => by unfold segs; rw [main_segs adm (dats m) () 𝒱₀ L lv (seg0 m) (reg0 m) rfl c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := fun c : Dev nD => iprop(StableHlo.held (c : Thread nD τ) bufs (V₀ m c) ∗ rides m c))
    (Tₙ := fun c : Dev nD => iprop(StableHlo.held (c : Thread nD τ) bufs (V₂ m c) ∗ after c))
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (barCell c) = 0)
    (hfin := fun c s' => by
      dsimp only [after]; rw [bufs_eq]
      iintro ⟨⟨⟨Ha, Hw, -, Hr⟩, Hb⟩, HSI⟩
      icombine HSI Ha gives %ha
      icombine HSI Hw gives %hw
      icombine HSI Hr gives %hr
      icombine HSI Hb gives %hb
      imodintro
      isplitr
      · ipureintro
        exact ⟨⟨Buf.eq_of_forall_mem_univ ha, Buf.eq_of_forall_mem_univ hw, Buf.eq_of_forall_mem_univ hr⟩, by simpa using hb⟩
      iexact HSI)
    (hQ := fun s h hs => ⟨fun c => by
        obtain ⟨⟨ha, hw, hr⟩, -⟩ := h c
        rw [V₂_ne m c (by decide), V₁_arg0] at ha
        rw [V₂_ne m c (by decide), V₁_arg1] at hw
        rw [V₂_out] at hr
        exact ⟨hr, ha, hw⟩,
      sem_eq_zero hs fun c sm hsm => by
        obtain rfl := unscoped_eq sm hsm
        exact (h c).2⟩)

end Cert.KernelIdeal.Gen

end
-- ==== Proof.Value.lean ====
/-
  The result of the kernel over the extended reals. Every product the kernel forms is a sum over some rows of one
  weight matrix, and the rows that a device contracts, its own and the ones received, are together all of them.
-/
module

public import proofs.«01_k».proof.Proof.Launch
public import Idealize.ShloMosaic.PureOps.Ideal
public import Idealize.ShloMosaic.Lib.Layout
public import Idealize.ShloMosaic.Lib.Pointwise

@[expose] public section

set_option maxRecDepth 20000

noncomputable section

namespace Cert.KernelIdeal.Gen

open Idealize.ShloMosaic Idealize.ShloMosaic.TcCoe Idealize.SL.Sem

/-! ## The sums -/

section

variable (O : Vec Ideal ⟨4, ![4, 512, 16, 64]⟩ .f32) (Wf : Vec Ideal ⟨2, ![1024, 1024]⟩ .f32)

/-- The term of the contraction at position `k` of the 1024: head `k / 64`, lane `k % 64`. -/
def term (b : Fin 4) (s : Fin 512) (n : Fin 1024) (k : ℕ) : EReal :=
  O (ix4 b s (Fin.ofNat 16 (k / 64)) (Fin.ofNat 64 (k % 64))) * Wf (ix2 (Fin.ofNat 1024 k) n)

/-- The whole contraction. -/
def dense : Vec Ideal ⟨3, ![4, 512, 1024]⟩ .bf16 := fun i => ∑ k ∈ Finset.range 1024, term O Wf (i 0) (i 1) (i 2) k

end

/-- A sum over 512 positions, tile by tile of 128. -/
theorem sum_tiles (f : ℕ → EReal) (a : EReal) :
    a + ∑ k : Fin 128, f (128 * 0 + k.val) + ∑ k : Fin 128, f (128 * 1 + k.val) + ∑ k : Fin 128, f (128 * 2 + k.val)
      + ∑ k : Fin 128, f (128 * 3 + k.val) = a + ∑ k ∈ Finset.range 512, f k := by
  have h (t : ℕ) : ∑ k ∈ Finset.range (128 * t + 128), f k = (∑ k ∈ Finset.range (128 * t), f k) + ∑ k : Fin 128, f (128 * t + k.val) := by
    rw [Finset.sum_range_add, Finset.sum_range fun k => f (128 * t + k)]
  have e : ∑ k ∈ Finset.range 512, f k = 0 + (∑ k : Fin 128, f (128 * 0 + k.val)) + (∑ k : Fin 128, f (128 * 1 + k.val))
      + (∑ k : Fin 128, f (128 * 2 + k.val)) + ∑ k : Fin 128, f (128 * 3 + k.val) :=
    (h 3).trans (congrArg (· + _) ((h 2).trans (congrArg (· + _) ((h 1).trans (congrArg (· + _) (h 0))))))
  rw [e, zero_add]
  simp only [add_assoc]

/-- The own half of the positions and the other half are all of them. -/
theorem sum_halves (f : ℕ → EReal) (x : ℕ) (hx : x ≤ 1) :
    (∑ k ∈ Finset.range 512, f (512 * x + k)) + ∑ k ∈ Finset.range 512, f (512 * (1 - x) + k) = ∑ k ∈ Finset.range 1024, f k := by
  rw [show 1024 = 512 + 512 from rfl, Finset.sum_range_add]
  obtain rfl | rfl : x = 0 ∨ x = 1 := by omega
  · simp
  · simp [add_comm]

/-! ## The payloads at an index -/

/-- A tile's payload: the accumulator and a sum of 128 products. -/
theorem pay1_at (v : Vec Ideal S1x256x1024 .f32) (o : Vec Ideal S1x128x256 .bf16) (w : Vec Ideal S128x1024 .bf16) (r : Fin 256)
    (n : Fin 1024) : k0_pay1 v o w (ix3 (0 : Fin 1) r n) = v (ix3 (0 : Fin 1) r n) + ∑ k : Fin 128, o (ix3 (0 : Fin 1) k r) * w (ix2 k n) := by
  pointwise [k0_pay1]

/-- The own product: a sum of 512 products. -/
theorem pay64_at (x : Vec Ideal S1x8x64x256 .f32) (w : FVec Ideal S512x1024 .bf16) (r : Fin 256) (n : Fin 1024) :
    k0_pay64 w x (ix3 (0 : Fin 1) r n)
      = ∑ k : Fin 512, x (ix4 (0 : Fin 1) (⟨k.val / 64, by omega⟩ : Fin 8) (⟨k.val % 64, by omega⟩ : Fin 64) r) * w (ix2 k n) := by
  pointwise [k0_pay64]

/-- The rounded activations are the activations, heads laid one under another. -/
theorem pay60_at (x : Vec Ideal S1x8x64x256 .f32) (k : Fin 512) (r : Fin 256) :
    k0_pay60 x (ix3 (0 : Fin 1) k r) = x (ix4 (0 : Fin 1) (⟨k.val / 64, by omega⟩ : Fin 8) (⟨k.val % 64, by omega⟩ : Fin 64) r) := by
  pointwise [k0_pay60]

/-- The rounded weights are the weights. -/
theorem pay59_at (x : Vec Ideal S512x1024 .f32) (k : Fin 512) (n : Fin 1024) : k0_pay59 x (ix2 k n) = x (ix2 k n) := by
  pointwise [k0_pay59, k0_pay58]

/-- The rounded result is the accumulator. -/
theorem round_at (v : Vec Ideal S1x256x1024 .f32) (r : Fin 256) (n : Fin 1024) :
    roundAcc v (ix3 (0 : Fin 1) r n) = v (ix3 (0 : Fin 1) r n) := by
  pointwise [roundAcc]

/-! ## What each buffer holds, by the whole operands -/

/-- Every device's operands are its part of two whole arrays: heads and weight rows go by the first mesh axis. -/
structure Shards (X : Dev nD → Vec Ideal S4x8x64x512 .f32) (W : Dev nD → Vec Ideal S512x1024 .f32)
    (O : Vec Ideal ⟨4, ![4, 512, 16, 64]⟩ .f32) (Wf : Vec Ideal ⟨2, ![1024, 1024]⟩ .f32) : Prop where
  x : ∀ (c : Dev nD) (b : Fin 4) (h : Fin 8) (d : Fin 64) (s : Fin 512),
    X c (ix4 b h d s) = O (ix4 b s (Fin.ofNat 16 (8 * (c.val / 16) + h.val)) d)
  w : ∀ (c : Dev nD) (k : Fin 512) (n : Fin 1024), W c (ix2 k n) = Wf (ix2 (Fin.ofNat 1024 (512 * (c.val / 16) + k.val)) n)

/-- The weights that land come from the other half. -/
theorem srcW_half : ∀ c : Dev nD, (srcW c).val / 16 = 1 - c.val / 16 := by decide +kernel
/-- The activations that land come from the other half. -/
theorem srcO_half : ∀ c : Dev nD, (srcO c).val / 16 = 1 - c.val / 16 := by decide +kernel
/-- There are two halves. -/
theorem half_le : ∀ c : Dev nD, c.val / 16 ≤ 1 := by decide +kernel

/-- Where the partner's columns of a batch are. -/
theorem rP_ix (b : Fin 4) (c : Dev nD) (h : Fin 8) (d : Fin 64) (r : Fin 256) :
    (rP b c).emb (ix4 (0 : Fin 1) h d r) = ix4 b h d (Fin.ofNat 512 (256 * (1 - c.val / 16) + r.val)) := by
  have hx := half_le c
  funext a
  refine Fin.ext ?_
  match a with
  | 0 => show b.val + 1 * 0 = b.val; omega
  | 1 => show 0 + 1 * h.val = h.val; omega
  | 2 => show 0 + 1 * d.val = d.val; omega
  | 3 =>
    show k0_off1 c 3 + 1 * r.val = (256 * (1 - c.val / 16) + r.val) % 512
    rw [off1_eq]; omega

/-- Where the own columns of a batch are. -/
theorem rOwn_ix (b : Fin 4) (c : Dev nD) (h : Fin 8) (d : Fin 64) (r : Fin 256) :
    (rOwn b c).emb (ix4 (0 : Fin 1) h d r) = ix4 b h d (Fin.ofNat 512 (256 * (c.val / 16) + r.val)) := by
  have hx := half_le c
  funext a
  refine Fin.ext ?_
  match a with
  | 0 => show b.val + 1 * 0 = b.val; omega
  | 1 => show 0 + 1 * h.val = h.val; omega
  | 2 => show 0 + 1 * d.val = d.val; omega
  | 3 =>
    show k0_off5 c 3 + 1 * r.val = (256 * (c.val / 16) + r.val) % 512
    rw [off5_eq]; omega

/-- Where a tile of the activations is. -/
theorem rTO_ix (b i : Fin 4) (k : Fin 128) (r : Fin 256) :
    (rTO b i).emb (ix3 (0 : Fin 1) k r) = ix3 b (Fin.ofNat 512 (128 * i.val + k.val)) r := by
  funext a
  refine Fin.ext ?_
  match a with
  | 0 => show b.val + 1 * 0 = b.val; omega
  | 1 => show 128 * i.val + 1 * k.val = (128 * i.val + k.val) % 512; omega
  | 2 => show 0 + 1 * r.val = r.val; omega

/-- Where a tile of the weights is. -/
theorem rTW_ix (i : Fin 4) (k : Fin 128) (n : Fin 1024) :
    (rTW i).emb (ix2 k n) = ix2 (Fin.ofNat 512 (128 * i.val + k.val)) n := by
  funext a
  refine Fin.ext ?_
  match a with
  | 0 => show 128 * i.val + 1 * k.val = (128 * i.val + k.val) % 512; omega
  | 1 => show 0 + 1 * n.val = n.val; omega

section

variable {X : Dev nD → Vec Ideal S4x8x64x512 .f32} {W : Dev nD → Vec Ideal S512x1024 .f32}
  {O : Vec Ideal ⟨4, ![4, 512, 16, 64]⟩ .f32} {Wf : Vec Ideal ⟨2, ![1024, 1024]⟩ .f32}

/-- Row `r` of device `c`'s result in the whole result. -/
def rowOf (c : Dev nD) (r : Fin 256) : Fin 512 := Fin.ofNat 512 (256 * (c.val / 16) + r.val)

/-- A position in the half of device `c`, from its place in that half. -/
theorem pos_head (c : Dev nD) (k : ℕ) (hk : k < 512) :
    Fin.ofNat 16 ((512 * (c.val / 16) + k) / 64) = Fin.ofNat 16 (8 * (c.val / 16) + k / 64) :=
  Fin.ext (by show (512 * (c.val / 16) + k) / 64 % 16 = (8 * (c.val / 16) + k / 64) % 16; omega)
/-- Its lane does not depend on the half. -/
theorem pos_lane (c : Dev nD) (k : ℕ) : Fin.ofNat 64 ((512 * (c.val / 16) + k) % 64) = Fin.ofNat 64 (k % 64) :=
  Fin.ext (by show (512 * (c.val / 16) + k) % 64 % 64 = k % 64 % 64; omega)

/-- The own product: the terms of the device's own half. -/
theorem own_at (hP : Shards X W O Wf) (c : Dev nD) (b : Fin 4) (r : Fin 256) (n : Fin 1024) :
    acc X W c b 0 (ix3 (0 : Fin 1) r n) = ∑ k ∈ Finset.range 512, term O Wf b (rowOf c r) n (512 * (c.val / 16) + k) := by
  show k0_pay64 (W c) (ownX X c b) (ix3 (0 : Fin 1) r n) = _
  rw [pay64_at, Finset.sum_range]
  refine Finset.sum_congr rfl fun k _ => ?_
  show X c ((rOwn b c).emb _) * _ = _
  rw [rOwn_ix, hP.x, hP.w]
  unfold term
  rw [pos_head c k.val k.isLt, pos_lane]
  refine congrArg (fun d => O (ix4 b _ _ d) * _) (Fin.ext ?_)
  show k.val % 64 = k.val % 64 % 64
  omega

/-- The activations landed, at a place. -/
theorem gLO_at (hP : Shards X W O Wf) (c : Dev nD) (b : Fin 4) (k : Fin 512) (r : Fin 256) :
    gLO X c (ix3 b k r) = O (ix4 b (rowOf c r) (Fin.ofNat 16 (8 * (1 - c.val / 16) + k.val / 64)) (Fin.ofNat 64 (k.val % 64))) := by
  have hx := half_le c
  have e : inBatchS (ix3 b k r) = ix3 (0 : Fin 1) k r := by
    funext a
    match a with
    | 0 => rfl
    | 1 => rfl
    | 2 => rfl
  show k0_pay60 (forX X (srcO c) b) (inBatchS (ix3 b k r)) = _
  rw [e, pay60_at]
  show X (srcO c) ((rP b (srcO c)).emb _) = _
  rw [rP_ix, hP.x, srcO_half]
  have e1 : Fin.ofNat 512 (256 * (1 - (1 - c.val / 16)) + r.val) = rowOf c r :=
    Fin.ext (by show (256 * (1 - (1 - c.val / 16)) + r.val) % 512 = (256 * (c.val / 16) + r.val) % 512; omega)
  have e2 : (⟨k.val % 64, by omega⟩ : Fin 64) = Fin.ofNat 64 (k.val % 64) := Fin.ext (by show k.val % 64 = k.val % 64 % 64; omega)
  rw [e1, e2]

/-- The weights landed, at a place. -/
theorem gLW_at (hP : Shards X W O Wf) (c : Dev nD) (k : Fin 512) (n : Fin 1024) :
    gLW W c (ix2 k n) = Wf (ix2 (Fin.ofNat 1024 (512 * (1 - c.val / 16) + k.val)) n) := by
  show k0_pay59 (W (srcW c)) (ix2 k n) = _
  rw [pay59_at, hP.w, srcW_half]

/-- A tile's product: 128 terms of the other half. -/
theorem tile_at (hP : Shards X W O Wf) (c : Dev nD) (b i : Fin 4) (r : Fin 256) (n : Fin 1024) :
    acc X W c b (i.val + 1) (ix3 (0 : Fin 1) r n) = acc X W c b i.val (ix3 (0 : Fin 1) r n)
      + ∑ k : Fin 128, term O Wf b (rowOf c r) n (512 * (1 - c.val / 16) + (128 * i.val + k.val)) := by
  rw [acc_succ, pay1_at]
  refine congrArg (_ + ·) (Finset.sum_congr rfl fun k _ => ?_)
  show gLO X c ((rTO b i).emb _) * gLW W c ((rTW i).emb _) = _
  rw [rTO_ix, rTW_ix, gLO_at hP, gLW_at hP]
  unfold term
  have ek : (Fin.ofNat 512 (128 * i.val + k.val)).val = 128 * i.val + k.val := by
    show (128 * i.val + k.val) % 512 = _; omega
  rw [ek]
  have e1 : Fin.ofNat 16 ((512 * (1 - c.val / 16) + (128 * i.val + k.val)) / 64)
      = Fin.ofNat 16 (8 * (1 - c.val / 16) + (128 * i.val + k.val) / 64) :=
    Fin.ext (by show _ / 64 % 16 = _ % 16; omega)
  have e2 : Fin.ofNat 64 ((512 * (1 - c.val / 16) + (128 * i.val + k.val)) % 64) = Fin.ofNat 64 ((128 * i.val + k.val) % 64) :=
    Fin.ext (by show _ % 64 % 64 = _ % 64 % 64; omega)
  rw [e1, e2]

/-- The result of device `c` is its rows of the whole contraction. -/
theorem gR_at (hP : Shards X W O Wf) (c : Dev nD) (b : Fin 4) (r : Fin 256) (n : Fin 1024) :
    gR X W c (ix3 b r n) = dense O Wf (ix3 b (rowOf c r) n) := by
  have e : inBatchR (ix3 b r n) = ix3 (0 : Fin 1) r n := by
    funext a
    match a with
    | 0 => rfl
    | 1 => rfl
    | 2 => rfl
  show roundAcc (acc X W c b 4) (inBatchR (ix3 b r n)) = ∑ k ∈ Finset.range 1024, term O Wf b (rowOf c r) n k
  rw [e, round_at]
  have h0 := tile_at hP c b 0 r n
  have h1 := tile_at hP c b 1 r n
  have h2 := tile_at hP c b 2 r n
  have h3 := tile_at hP c b 3 r n
  rw [← sum_halves _ _ (half_le c), ← sum_tiles fun k => term O Wf b (rowOf c r) n (512 * (1 - c.val / 16) + k), ← own_at hP]
  exact h3.trans (congrArg (· + _) (h2.trans (congrArg (· + _) (h1.trans (congrArg (· + _) h0)))))

end

/-! ## The parts that the devices hold -/

/-- A device's block of heads is its half. -/
theorem block_heads : ∀ c : Dev nD, (Layout.meshBlock (r := 4) [2, 4, 4] ![[], [], [0], []] c (by decide) 2).val = c.val / 16 := by decide +kernel
/-- A device's block of weight rows is its half. -/
theorem block_wrows : ∀ c : Dev nD, (Layout.meshBlock (r := 2) [2, 4, 4] ![[0], []] c (by decide) 0).val = c.val / 16 := by decide +kernel
/-- A device's block of result rows is its half. -/
theorem block_rows : ∀ c : Dev nD, (Layout.meshBlock (r := 3) [2, 4, 4] ![[], [0], []] c (by decide) 1).val = c.val / 16 := by decide +kernel

variable (m : (ℓ : Loc nD τ sig) → Buf (Elt Ideal) ℓ)

/-- The region's first operand is the first argument, its positions moved last. -/
theorem Xm_eq (c : Dev nD) (b : Fin 4) (h : Fin 8) (d : Fin 64) (s : Fin 512) :
    Xm m c (ix4 b h d s) = (m ((c : Thread nD τ).loc main_arg0) : Vec Ideal S4x512x8x64 .f32) (ix4 b s h d) := by
  show StableHlo.after hostOps0 (V₀ m c) (Proc.devRef .tc main_v1) (ix4 b h d s) = _
  rw [StableHlo.after_cons, StableHlo.after_nil, StableHlo.unary_result]
  pointwise []

/-- The arguments laid out as the claim says are the parts of the whole arrays. -/
theorem shards (O : Vec Ideal ⟨4, ![4, 512, 16, 64]⟩ .f32) (Wf : Vec Ideal ⟨2, ![1024, 1024]⟩ .f32)
    (hO : ∀ c : Dev nD, m ((c : Thread nD τ).loc main_arg0)
      = Layout.blockN ⟨4, ![4, 512, 8, 64]⟩ ⟨4, ![4, 512, 16, 64]⟩ (Layout.meshBlock [2, 4, 4] ![[], [], [0], []] c) O)
    (hW : ∀ c : Dev nD, m ((c : Thread nD τ).loc main_arg1)
      = Layout.blockN ⟨2, ![512, 1024]⟩ ⟨2, ![1024, 1024]⟩ (Layout.meshBlock [2, 4, 4] ![[0], []] c) Wf) :
    Shards (Xm m) (Wm m) O Wf where
  x c b h d s := by
    have hx := half_le c
    rw [Xm_eq, hO c, Layout.blockN_apply]
    refine congrArg O (funext fun a => Fin.ext ?_)
    rw [Layout.TilesN.idx_val]
    match a with
    | 0 => show 0 * 4 + b.val = b.val; omega
    | 1 => show 0 * 512 + s.val = s.val; omega
    | 2 =>
      show (Layout.meshBlock (r := 4) [2, 4, 4] ![[], [], [0], []] c (by decide) 2).val * 8 + h.val = (8 * (c.val / 16) + h.val) % 16
      rw [block_heads]; omega
    | 3 => show 0 * 64 + d.val = d.val; omega
  w c k n := by
    have hx := half_le c
    show V₁ m c main_arg1 (ix2 k n) = _
    rw [V₁_arg1, hW c, Layout.blockN_apply]
    refine congrArg Wf (funext fun a => Fin.ext ?_)
    rw [Layout.TilesN.idx_val]
    match a with
    | 0 =>
      show (Layout.meshBlock (r := 2) [2, 4, 4] ![[0], []] c (by decide) 0).val * 512 + k.val = (512 * (c.val / 16) + k.val) % 1024
      rw [block_wrows]; omega
    | 1 => show 0 * 1024 + n.val = n.val; omega

/-- Every device's result is its block of rows of the whole contraction. -/
theorem gR_block {X : Dev nD → Vec Ideal S4x8x64x512 .f32} {W : Dev nD → Vec Ideal S512x1024 .f32}
    {O : Vec Ideal ⟨4, ![4, 512, 16, 64]⟩ .f32} {Wf : Vec Ideal ⟨2, ![1024, 1024]⟩ .f32} (hP : Shards X W O Wf) (c : Dev nD) :
    gR X W c = Layout.blockN ⟨3, ![4, 256, 1024]⟩ ⟨3, ![4, 512, 1024]⟩ (Layout.meshBlock [2, 4, 4] ![[], [0], []] c) (dense O Wf) := by
  have hx := half_le c
  funext i
  obtain ⟨b, r, n, rfl⟩ : ∃ (b : Fin 4) (r : Fin 256) (n : Fin 1024), i = ix3 b r n := ⟨i 0, i 1, i 2, eq_ix3 i⟩
  rw [gR_at hP, Layout.blockN_apply]
  refine congrArg (dense O Wf) (funext fun a => Fin.ext ?_)
  rw [Layout.TilesN.idx_val]
  match a with
  | 0 => show b.val = 0 * 4 + b.val; omega
  | 1 =>
    show (256 * (c.val / 16) + r.val) % 512 = (Layout.meshBlock (r := 3) [2, 4, 4] ![[], [0], []] c (by decide) 1).val * 256 + r.val
    rw [block_rows]; omega
  | 2 => show n.val = 0 * 1024 + n.val; omega

end Cert.KernelIdeal.Gen
-- ==== Proof.Ref.lean ====
/-
  What the reference computes over the extended reals: the whole contraction.
-/
module

public import proofs.«01_k».proof.Proof.Value
public import proofs.«01_k».proof.Proof.Gen.ReferenceIdeal.Run

@[expose] public section

set_option maxRecDepth 20000

noncomputable section

namespace Cert.ReferenceIdeal.Gen

open Cert.ReferenceIdeal Idealize.ShloMosaic Idealize.SL.Sem

/-- The product of the activations, heads laid side by side, and the weights is the sum over all 1024 positions. -/
theorem reference_eq (O : Vec Ideal S4x512x16x64 .f32) (Wf : Vec Ideal S1024x1024 .f32) :
    truncf (F := Ideal) .bf16 (Host.dotGeneral (φ₁ := .f32) (φ₂ := .f32) dot_S4x512x1024_S1024x1024_S4x512x1024_2_0_01_1_n_n none
      (shapeCast S4x512x1024 O facts.shapeCasts_S4x512x16x64_S4x512x1024) Wf) facts.bitsLt_bf16_f32
      = Cert.KernelIdeal.Gen.dense O Wf := by
  funext i
  obtain ⟨b, s, n, rfl⟩ : ∃ (b : Fin 4) (s : Fin 512) (n : Fin 1024), i = ix3 b s n := ⟨i 0, i 1, i 2, eq_ix3 i⟩
  show _ = ∑ k ∈ Finset.range 1024, Cert.KernelIdeal.Gen.term O Wf b s n k
  rw [Finset.sum_range]
  pointwise []
  refine Finset.sum_congr rfl fun k _ => ?_
  unfold Cert.KernelIdeal.Gen.term
  have e1 : (⟨k.val / 64, by omega⟩ : Fin 16) = Fin.ofNat 16 (k.val / 64) := Fin.ext (by show k.val / 64 = k.val / 64 % 16; omega)
  have e2 : (⟨k.val % 64, by omega⟩ : Fin 64) = Fin.ofNat 64 (k.val % 64) := Fin.ext (by show k.val % 64 = k.val % 64 % 64; omega)
  have e3 : k = Fin.ofNat 1024 k.val := Fin.ext (by show k.val = k.val % 1024; omega)
  rw [← e1, ← e2, ← e3]

end Cert.ReferenceIdeal.Gen
-- ==== Proof.lean ====
/-
  The five claims assembled: the run of the kernel (Launch), its value against the reference's (Value), and the
  reference's own run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The printed kernel runs; its text is the ideal program's, read at words. -/
theorem frame_kernel : Cert.quiescent_Kernel := fun m ρ _ =>
  (θ_run Cert.KernelIdeal.defs _ _).mono (fun _ h => ⟨fun c => (h.1 c).2, h.2⟩) (Cert.KernelIdeal.Gen.run_main (F := Bits) m ρ)
/-- The ideal kernel runs. -/
theorem frame_kernelIdeal : Cert.quiescent_KernelIdeal := fun m ρ _ =>
  (θ_run Cert.KernelIdeal.defs _ _).mono (fun _ h => ⟨fun c => (h.1 c).2, h.2⟩) (Cert.KernelIdeal.Gen.run_main (F := Ideal) m ρ)

/-- The reference runs; it declares no semaphore, so every counter stays at zero. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories where every device holds its part of the whole arrays, every device's result is its block of rows of
    the reference's result. -/
theorem algebraic : Cert.algebraic_KernelIdeal_ReferenceIdeal := fun m g m' g' _ hargs =>
  have hS := Cert.KernelIdeal.Gen.shards m _ _ (fun c => (hargs c).1) (fun c => (hargs c).2)
  ⟨Cert.KernelIdeal.Gen.dense (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ h c => ⟨(h.1 c).1.trans (Cert.KernelIdeal.Gen.gR_block hS c), (h.1 c).2⟩)
      (Cert.KernelIdeal.Gen.run_main (F := Ideal) m g),
    (θ_run Cert.ReferenceIdeal.defs _ _).mono
      (fun _ h => ⟨(h 0).1.trans (Cert.ReferenceIdeal.Gen.reference_eq _ _), (h 0).2⟩)
      (Cert.ReferenceIdeal.Value.run (F := Ideal) m' g')⟩

/-- All the claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
